-- ==== Defs.lean ====
def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9)
      ∧ r.2.mem ((c.tc : Thread Cert.Prompt.nD Cert.Prompt.τ).loc Cert.Prompt.main_arg10) = m ((c.tc : Thread Cert.Prompt.nD Cert.Prompt.τ).loc Cert.Prompt.main_arg10)
      ∧ r.2.mem ((c.tc : Thread Cert.Prompt.nD Cert.Prompt.τ).loc Cert.Prompt.main_arg11) = m ((c.tc : Thread Cert.Prompt.nD Cert.Prompt.τ).loc Cert.Prompt.main_arg11)
      ∧ r.2.mem ((c.tc : Thread Cert.Prompt.nD Cert.Prompt.τ).loc Cert.Prompt.main_arg12) = m ((c.tc : Thread Cert.Prompt.nD Cert.Prompt.τ).loc Cert.Prompt.main_arg12)
      ∧ r.2.mem ((c.tc : Thread Cert.Prompt.nD Cert.Prompt.τ).loc Cert.Prompt.main_arg13) = m ((c.tc : Thread Cert.Prompt.nD Cert.Prompt.τ).loc Cert.Prompt.main_arg13)
      ∧ r.2.mem ((c.tc : Thread Cert.Prompt.nD Cert.Prompt.τ).loc Cert.Prompt.main_arg14) = m ((c.tc : Thread Cert.Prompt.nD Cert.Prompt.τ).loc Cert.Prompt.main_arg14)
      ∧ r.2.mem ((c.tc : Thread Cert.Prompt.nD Cert.Prompt.τ).loc Cert.Prompt.main_arg15) = m ((c.tc : Thread Cert.Prompt.nD Cert.Prompt.τ).loc Cert.Prompt.main_arg15))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
      ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
      ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
      ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
      ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14)
      ∧ r.2.mem ((c.tc : Thread Cert.PromptIdeal.nD Cert.PromptIdeal.τ).loc Cert.PromptIdeal.main_arg15) = m ((c.tc : Thread Cert.PromptIdeal.nD Cert.PromptIdeal.τ).loc Cert.PromptIdeal.main_arg15))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6)
      ∧ r.2.mem ((c.tc : Thread Cert.PromptRefIdeal.nD Cert.PromptRefIdeal.τ).loc Cert.PromptRefIdeal.main_arg7) = m ((c.tc : Thread Cert.PromptRefIdeal.nD Cert.PromptRefIdeal.τ).loc Cert.PromptRefIdeal.main_arg7)
      ∧ r.2.mem ((c.tc : Thread Cert.PromptRefIdeal.nD Cert.PromptRefIdeal.τ).loc Cert.PromptRefIdeal.main_arg8) = m ((c.tc : Thread Cert.PromptRefIdeal.nD Cert.PromptRefIdeal.τ).loc Cert.PromptRefIdeal.main_arg8)
      ∧ r.2.mem ((c.tc : Thread Cert.PromptRefIdeal.nD Cert.PromptRefIdeal.τ).loc Cert.PromptRefIdeal.main_arg9) = m ((c.tc : Thread Cert.PromptRefIdeal.nD Cert.PromptRefIdeal.τ).loc Cert.PromptRefIdeal.main_arg9)
      ∧ r.2.mem ((c.tc : Thread Cert.PromptRefIdeal.nD Cert.PromptRefIdeal.τ).loc Cert.PromptRefIdeal.main_arg10) = m ((c.tc : Thread Cert.PromptRefIdeal.nD Cert.PromptRefIdeal.τ).loc Cert.PromptRefIdeal.main_arg10)
      ∧ r.2.mem ((c.tc : Thread Cert.PromptRefIdeal.nD Cert.PromptRefIdeal.τ).loc Cert.PromptRefIdeal.main_arg11) = m ((c.tc : Thread Cert.PromptRefIdeal.nD Cert.PromptRefIdeal.τ).loc Cert.PromptRefIdeal.main_arg11)
      ∧ r.2.mem ((c.tc : Thread Cert.PromptRefIdeal.nD Cert.PromptRefIdeal.τ).loc Cert.PromptRefIdeal.main_arg12) = m ((c.tc : Thread Cert.PromptRefIdeal.nD Cert.PromptRefIdeal.τ).loc Cert.PromptRefIdeal.main_arg12)
      ∧ r.2.mem ((c.tc : Thread Cert.PromptRefIdeal.nD Cert.PromptRefIdeal.τ).loc Cert.PromptRefIdeal.main_arg13) = m ((c.tc : Thread Cert.PromptRefIdeal.nD Cert.PromptRefIdeal.τ).loc Cert.PromptRefIdeal.main_arg13)
      ∧ r.2.mem ((c.tc : Thread Cert.PromptRefIdeal.nD Cert.PromptRefIdeal.τ).loc Cert.PromptRefIdeal.main_arg14) = m ((c.tc : Thread Cert.PromptRefIdeal.nD Cert.PromptRefIdeal.τ).loc Cert.PromptRefIdeal.main_arg14)
      ∧ r.2.mem ((c.tc : Thread Cert.PromptRefIdeal.nD Cert.PromptRefIdeal.τ).loc Cert.PromptRefIdeal.main_arg15) = m ((c.tc : Thread Cert.PromptRefIdeal.nD Cert.PromptRefIdeal.τ).loc Cert.PromptRefIdeal.main_arg15))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11)
      ∧ r.2.mem ((c.tc : Thread Cert.Sample.nD Cert.Sample.τ).loc Cert.Sample.main_arg12) = m ((c.tc : Thread Cert.Sample.nD Cert.Sample.τ).loc Cert.Sample.main_arg12)
      ∧ r.2.mem ((c.tc : Thread Cert.Sample.nD Cert.Sample.τ).loc Cert.Sample.main_arg13) = m ((c.tc : Thread Cert.Sample.nD Cert.Sample.τ).loc Cert.Sample.main_arg13)
      ∧ r.2.mem ((c.tc : Thread Cert.Sample.nD Cert.Sample.τ).loc Cert.Sample.main_arg14) = m ((c.tc : Thread Cert.Sample.nD Cert.Sample.τ).loc Cert.Sample.main_arg14)
      ∧ r.2.mem ((c.tc : Thread Cert.Sample.nD Cert.Sample.τ).loc Cert.Sample.main_arg15) = m ((c.tc : Thread Cert.Sample.nD Cert.Sample.τ).loc Cert.Sample.main_arg15)
      ∧ r.2.mem ((c.tc : Thread Cert.Sample.nD Cert.Sample.τ).loc Cert.Sample.main_arg16) = m ((c.tc : Thread Cert.Sample.nD Cert.Sample.τ).loc Cert.Sample.main_arg16)
      ∧ r.2.mem ((c.tc : Thread Cert.Sample.nD Cert.Sample.τ).loc Cert.Sample.main_arg17) = m ((c.tc : Thread Cert.Sample.nD Cert.Sample.τ).loc Cert.Sample.main_arg17))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
      ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
      ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
      ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10)
      ∧ r.2.mem ((c.tc : Thread Cert.SampleRefIdeal.nD Cert.SampleRefIdeal.τ).loc Cert.SampleRefIdeal.main_arg11) = m ((c.tc : Thread Cert.SampleRefIdeal.nD Cert.SampleRefIdeal.τ).loc Cert.SampleRefIdeal.main_arg11)
      ∧ r.2.mem ((c.tc : Thread Cert.SampleRefIdeal.nD Cert.SampleRefIdeal.τ).loc Cert.SampleRefIdeal.main_arg12) = m ((c.tc : Thread Cert.SampleRefIdeal.nD Cert.SampleRefIdeal.τ).loc Cert.SampleRefIdeal.main_arg12)
      ∧ r.2.mem ((c.tc : Thread Cert.SampleRefIdeal.nD Cert.SampleRefIdeal.τ).loc Cert.SampleRefIdeal.main_arg13) = m ((c.tc : Thread Cert.SampleRefIdeal.nD Cert.SampleRefIdeal.τ).loc Cert.SampleRefIdeal.main_arg13)
      ∧ r.2.mem ((c.tc : Thread Cert.SampleRefIdeal.nD Cert.SampleRefIdeal.τ).loc Cert.SampleRefIdeal.main_arg14) = m ((c.tc : Thread Cert.SampleRefIdeal.nD Cert.SampleRefIdeal.τ).loc Cert.SampleRefIdeal.main_arg14)
      ∧ r.2.mem ((c.tc : Thread Cert.SampleRefIdeal.nD Cert.SampleRefIdeal.τ).loc Cert.SampleRefIdeal.main_arg15) = m ((c.tc : Thread Cert.SampleRefIdeal.nD Cert.SampleRefIdeal.τ).loc Cert.SampleRefIdeal.main_arg15)
      ∧ r.2.mem ((c.tc : Thread Cert.SampleRefIdeal.nD Cert.SampleRefIdeal.τ).loc Cert.SampleRefIdeal.main_arg16) = m ((c.tc : Thread Cert.SampleRefIdeal.nD Cert.SampleRefIdeal.τ).loc Cert.SampleRefIdeal.main_arg16)
      ∧ r.2.mem ((c.tc : Thread Cert.SampleRefIdeal.nD Cert.SampleRefIdeal.τ).loc Cert.SampleRefIdeal.main_arg17) = m ((c.tc : Thread Cert.SampleRefIdeal.nD Cert.SampleRefIdeal.τ).loc Cert.SampleRefIdeal.main_arg17))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5))
      ∧ r.2.sem = fun _ => 0)

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)
      ∧ m' ((c.tc : Thread Cert.PromptRefIdeal.nD Cert.PromptRefIdeal.τ).loc Cert.PromptRefIdeal.main_arg7) = m ((c.tc : Thread Cert.PromptIdeal.nD Cert.PromptIdeal.τ).loc Cert.PromptIdeal.main_arg7)
      ∧ m' ((c.tc : Thread Cert.PromptRefIdeal.nD Cert.PromptRefIdeal.τ).loc Cert.PromptRefIdeal.main_arg8) = m ((c.tc : Thread Cert.PromptIdeal.nD Cert.PromptIdeal.τ).loc Cert.PromptIdeal.main_arg8)
      ∧ m' ((c.tc : Thread Cert.PromptRefIdeal.nD Cert.PromptRefIdeal.τ).loc Cert.PromptRefIdeal.main_arg9) = m ((c.tc : Thread Cert.PromptIdeal.nD Cert.PromptIdeal.τ).loc Cert.PromptIdeal.main_arg9)
      ∧ m' ((c.tc : Thread Cert.PromptRefIdeal.nD Cert.PromptRefIdeal.τ).loc Cert.PromptRefIdeal.main_arg10) = m ((c.tc : Thread Cert.PromptIdeal.nD Cert.PromptIdeal.τ).loc Cert.PromptIdeal.main_arg10)
      ∧ m' ((c.tc : Thread Cert.PromptRefIdeal.nD Cert.PromptRefIdeal.τ).loc Cert.PromptRefIdeal.main_arg11) = m ((c.tc : Thread Cert.PromptIdeal.nD Cert.PromptIdeal.τ).loc Cert.PromptIdeal.main_arg11)
      ∧ m' ((c.tc : Thread Cert.PromptRefIdeal.nD Cert.PromptRefIdeal.τ).loc Cert.PromptRefIdeal.main_arg12) = m ((c.tc : Thread Cert.PromptIdeal.nD Cert.PromptIdeal.τ).loc Cert.PromptIdeal.main_arg12)
      ∧ m' ((c.tc : Thread Cert.PromptRefIdeal.nD Cert.PromptRefIdeal.τ).loc Cert.PromptRefIdeal.main_arg13) = m ((c.tc : Thread Cert.PromptIdeal.nD Cert.PromptIdeal.τ).loc Cert.PromptIdeal.main_arg13)
      ∧ m' ((c.tc : Thread Cert.PromptRefIdeal.nD Cert.PromptRefIdeal.τ).loc Cert.PromptRefIdeal.main_arg14) = m ((c.tc : Thread Cert.PromptIdeal.nD Cert.PromptIdeal.τ).loc Cert.PromptIdeal.main_arg14)
      ∧ m' ((c.tc : Thread Cert.PromptRefIdeal.nD Cert.PromptRefIdeal.τ).loc Cert.PromptRefIdeal.main_arg15) = m ((c.tc : Thread Cert.PromptIdeal.nD Cert.PromptIdeal.τ).loc Cert.PromptIdeal.main_arg15)) →
    ∃ (v0 : (c : Dev Cert.PromptIdeal.nD) → Buf (Elt Ideal) ((c.tc : Thread Cert.PromptIdeal.nD Cert.PromptIdeal.τ).loc Cert.PromptIdeal.main_v27)) (v1 : (c : Dev Cert.PromptIdeal.nD) → Buf (Elt Ideal) ((c.tc : Thread Cert.PromptIdeal.nD Cert.PromptIdeal.τ).loc Cert.PromptIdeal.main_v26_0)) (v2 : (c : Dev Cert.PromptIdeal.nD) → Buf (Elt Ideal) ((c.tc : Thread Cert.PromptIdeal.nD Cert.PromptIdeal.τ).loc Cert.PromptIdeal.main_v26_1)) (v3 : (c : Dev Cert.PromptIdeal.nD) → Buf (Elt Ideal) ((c.tc : Thread Cert.PromptIdeal.nD Cert.PromptIdeal.τ).loc Cert.PromptIdeal.main_v26_3)) (v4 : (c : Dev Cert.PromptIdeal.nD) → Buf (Elt Ideal) ((c.tc : Thread Cert.PromptIdeal.nD Cert.PromptIdeal.τ).loc Cert.PromptIdeal.main_v26_4)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v27) = v0 c
          ∧ r.2.mem ((c.tc : Thread Cert.PromptIdeal.nD Cert.PromptIdeal.τ).loc Cert.PromptIdeal.main_v26_0) = v1 c
          ∧ r.2.mem ((c.tc : Thread Cert.PromptIdeal.nD Cert.PromptIdeal.τ).loc Cert.PromptIdeal.main_v26_1) = v2 c
          ∧ r.2.mem ((c.tc : Thread Cert.PromptIdeal.nD Cert.PromptIdeal.τ).loc Cert.PromptIdeal.main_v26_3) = v3 c
          ∧ r.2.mem ((c.tc : Thread Cert.PromptIdeal.nD Cert.PromptIdeal.τ).loc Cert.PromptIdeal.main_v26_4) = v4 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
          ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
          ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
          ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
          ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
          ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14)
          ∧ r.2.mem ((c.tc : Thread Cert.PromptIdeal.nD Cert.PromptIdeal.τ).loc Cert.PromptIdeal.main_arg15) = m ((c.tc : Thread Cert.PromptIdeal.nD Cert.PromptIdeal.τ).loc Cert.PromptIdeal.main_arg15))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v115) = v0 c
          ∧ r.2.mem ((c.tc : Thread Cert.PromptRefIdeal.nD Cert.PromptRefIdeal.τ).loc Cert.PromptRefIdeal.main_v37) = v1 c
          ∧ r.2.mem ((c.tc : Thread Cert.PromptRefIdeal.nD Cert.PromptRefIdeal.τ).loc Cert.PromptRefIdeal.main_v116) = v2 c
          ∧ r.2.mem ((c.tc : Thread Cert.PromptRefIdeal.nD Cert.PromptRefIdeal.τ).loc Cert.PromptRefIdeal.main_v118) = v3 c
          ∧ r.2.mem ((c.tc : Thread Cert.PromptRefIdeal.nD Cert.PromptRefIdeal.τ).loc Cert.PromptRefIdeal.main_v120) = v4 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6)
          ∧ r.2.mem ((c.tc : Thread Cert.PromptRefIdeal.nD Cert.PromptRefIdeal.τ).loc Cert.PromptRefIdeal.main_arg7) = m' ((c.tc : Thread Cert.PromptRefIdeal.nD Cert.PromptRefIdeal.τ).loc Cert.PromptRefIdeal.main_arg7)
          ∧ r.2.mem ((c.tc : Thread Cert.PromptRefIdeal.nD Cert.PromptRefIdeal.τ).loc Cert.PromptRefIdeal.main_arg8) = m' ((c.tc : Thread Cert.PromptRefIdeal.nD Cert.PromptRefIdeal.τ).loc Cert.PromptRefIdeal.main_arg8)
          ∧ r.2.mem ((c.tc : Thread Cert.PromptRefIdeal.nD Cert.PromptRefIdeal.τ).loc Cert.PromptRefIdeal.main_arg9) = m' ((c.tc : Thread Cert.PromptRefIdeal.nD Cert.PromptRefIdeal.τ).loc Cert.PromptRefIdeal.main_arg9)
          ∧ r.2.mem ((c.tc : Thread Cert.PromptRefIdeal.nD Cert.PromptRefIdeal.τ).loc Cert.PromptRefIdeal.main_arg10) = m' ((c.tc : Thread Cert.PromptRefIdeal.nD Cert.PromptRefIdeal.τ).loc Cert.PromptRefIdeal.main_arg10)
          ∧ r.2.mem ((c.tc : Thread Cert.PromptRefIdeal.nD Cert.PromptRefIdeal.τ).loc Cert.PromptRefIdeal.main_arg11) = m' ((c.tc : Thread Cert.PromptRefIdeal.nD Cert.PromptRefIdeal.τ).loc Cert.PromptRefIdeal.main_arg11)
          ∧ r.2.mem ((c.tc : Thread Cert.PromptRefIdeal.nD Cert.PromptRefIdeal.τ).loc Cert.PromptRefIdeal.main_arg12) = m' ((c.tc : Thread Cert.PromptRefIdeal.nD Cert.PromptRefIdeal.τ).loc Cert.PromptRefIdeal.main_arg12)
          ∧ r.2.mem ((c.tc : Thread Cert.PromptRefIdeal.nD Cert.PromptRefIdeal.τ).loc Cert.PromptRefIdeal.main_arg13) = m' ((c.tc : Thread Cert.PromptRefIdeal.nD Cert.PromptRefIdeal.τ).loc Cert.PromptRefIdeal.main_arg13)
          ∧ r.2.mem ((c.tc : Thread Cert.PromptRefIdeal.nD Cert.PromptRefIdeal.τ).loc Cert.PromptRefIdeal.main_arg14) = m' ((c.tc : Thread Cert.PromptRefIdeal.nD Cert.PromptRefIdeal.τ).loc Cert.PromptRefIdeal.main_arg14)
          ∧ r.2.mem ((c.tc : Thread Cert.PromptRefIdeal.nD Cert.PromptRefIdeal.τ).loc Cert.PromptRefIdeal.main_arg15) = m' ((c.tc : Thread Cert.PromptRefIdeal.nD Cert.PromptRefIdeal.τ).loc Cert.PromptRefIdeal.main_arg15))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)
      ∧ m' ((c.tc : Thread Cert.SampleRefIdeal.nD Cert.SampleRefIdeal.τ).loc Cert.SampleRefIdeal.main_arg11) = m ((c.tc : Thread Cert.SampleIdeal.nD Cert.SampleIdeal.τ).loc Cert.SampleIdeal.main_arg11)
      ∧ m' ((c.tc : Thread Cert.SampleRefIdeal.nD Cert.SampleRefIdeal.τ).loc Cert.SampleRefIdeal.main_arg12) = m ((c.tc : Thread Cert.SampleIdeal.nD Cert.SampleIdeal.τ).loc Cert.SampleIdeal.main_arg12)
      ∧ m' ((c.tc : Thread Cert.SampleRefIdeal.nD Cert.SampleRefIdeal.τ).loc Cert.SampleRefIdeal.main_arg13) = m ((c.tc : Thread Cert.SampleIdeal.nD Cert.SampleIdeal.τ).loc Cert.SampleIdeal.main_arg13)
      ∧ m' ((c.tc : Thread Cert.SampleRefIdeal.nD Cert.SampleRefIdeal.τ).loc Cert.SampleRefIdeal.main_arg14) = m ((c.tc : Thread Cert.SampleIdeal.nD Cert.SampleIdeal.τ).loc Cert.SampleIdeal.main_arg14)
      ∧ m' ((c.tc : Thread Cert.SampleRefIdeal.nD Cert.SampleRefIdeal.τ).loc Cert.SampleRefIdeal.main_arg15) = m ((c.tc : Thread Cert.SampleIdeal.nD Cert.SampleIdeal.τ).loc Cert.SampleIdeal.main_arg15)
      ∧ m' ((c.tc : Thread Cert.SampleRefIdeal.nD Cert.SampleRefIdeal.τ).loc Cert.SampleRefIdeal.main_arg16) = m ((c.tc : Thread Cert.SampleIdeal.nD Cert.SampleIdeal.τ).loc Cert.SampleIdeal.main_arg16)
      ∧ m' ((c.tc : Thread Cert.SampleRefIdeal.nD Cert.SampleRefIdeal.τ).loc Cert.SampleRefIdeal.main_arg17) = m ((c.tc : Thread Cert.SampleIdeal.nD Cert.SampleIdeal.τ).loc Cert.SampleIdeal.main_arg17)) →
    ∃ (v0 : (c : Dev Cert.SampleIdeal.nD) → Buf (Elt Ideal) ((c.tc : Thread Cert.SampleIdeal.nD Cert.SampleIdeal.τ).loc Cert.SampleIdeal.main_v38)) (v1 : (c : Dev Cert.SampleIdeal.nD) → Buf (Elt Ideal) ((c.tc : Thread Cert.SampleIdeal.nD Cert.SampleIdeal.τ).loc Cert.SampleIdeal.main_v30_3)) (v2 : (c : Dev Cert.SampleIdeal.nD) → Buf (Elt Ideal) ((c.tc : Thread Cert.SampleIdeal.nD Cert.SampleIdeal.τ).loc Cert.SampleIdeal.main_v30_4)) (v3 : (c : Dev Cert.SampleIdeal.nD) → Buf (Elt Ideal) ((c.tc : Thread Cert.SampleIdeal.nD Cert.SampleIdeal.τ).loc Cert.SampleIdeal.main_v36_1)) (v4 : (c : Dev Cert.SampleIdeal.nD) → Buf (Elt Ideal) ((c.tc : Thread Cert.SampleIdeal.nD Cert.SampleIdeal.τ).loc Cert.SampleIdeal.main_v30_5)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v38) = v0 c
          ∧ r.2.mem ((c.tc : Thread Cert.SampleIdeal.nD Cert.SampleIdeal.τ).loc Cert.SampleIdeal.main_v30_3) = v1 c
          ∧ r.2.mem ((c.tc : Thread Cert.SampleIdeal.nD Cert.SampleIdeal.τ).loc Cert.SampleIdeal.main_v30_4) = v2 c
          ∧ r.2.mem ((c.tc : Thread Cert.SampleIdeal.nD Cert.SampleIdeal.τ).loc Cert.SampleIdeal.main_v36_1) = v3 c
          ∧ r.2.mem ((c.tc : Thread Cert.SampleIdeal.nD Cert.SampleIdeal.τ).loc Cert.SampleIdeal.main_v30_5) = v4 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
          ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
          ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
          ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
          ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
          ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
          ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v168) = v0 c
          ∧ r.2.mem ((c.tc : Thread Cert.SampleRefIdeal.nD Cert.SampleRefIdeal.τ).loc Cert.SampleRefIdeal.main_v171) = v1 c
          ∧ r.2.mem ((c.tc : Thread Cert.SampleRefIdeal.nD Cert.SampleRefIdeal.τ).loc Cert.SampleRefIdeal.main_v174) = v2 c
          ∧ r.2.mem ((c.tc : Thread Cert.SampleRefIdeal.nD Cert.SampleRefIdeal.τ).loc Cert.SampleRefIdeal.main_v86) = v3 c
          ∧ r.2.mem ((c.tc : Thread Cert.SampleRefIdeal.nD Cert.SampleRefIdeal.τ).loc Cert.SampleRefIdeal.main_v176) = v4 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10)
          ∧ r.2.mem ((c.tc : Thread Cert.SampleRefIdeal.nD Cert.SampleRefIdeal.τ).loc Cert.SampleRefIdeal.main_arg11) = m' ((c.tc : Thread Cert.SampleRefIdeal.nD Cert.SampleRefIdeal.τ).loc Cert.SampleRefIdeal.main_arg11)
          ∧ r.2.mem ((c.tc : Thread Cert.SampleRefIdeal.nD Cert.SampleRefIdeal.τ).loc Cert.SampleRefIdeal.main_arg12) = m' ((c.tc : Thread Cert.SampleRefIdeal.nD Cert.SampleRefIdeal.τ).loc Cert.SampleRefIdeal.main_arg12)
          ∧ r.2.mem ((c.tc : Thread Cert.SampleRefIdeal.nD Cert.SampleRefIdeal.τ).loc Cert.SampleRefIdeal.main_arg13) = m' ((c.tc : Thread Cert.SampleRefIdeal.nD Cert.SampleRefIdeal.τ).loc Cert.SampleRefIdeal.main_arg13)
          ∧ r.2.mem ((c.tc : Thread Cert.SampleRefIdeal.nD Cert.SampleRefIdeal.τ).loc Cert.SampleRefIdeal.main_arg14) = m' ((c.tc : Thread Cert.SampleRefIdeal.nD Cert.SampleRefIdeal.τ).loc Cert.SampleRefIdeal.main_arg14)
          ∧ r.2.mem ((c.tc : Thread Cert.SampleRefIdeal.nD Cert.SampleRefIdeal.τ).loc Cert.SampleRefIdeal.main_arg15) = m' ((c.tc : Thread Cert.SampleRefIdeal.nD Cert.SampleRefIdeal.τ).loc Cert.SampleRefIdeal.main_arg15)
          ∧ r.2.mem ((c.tc : Thread Cert.SampleRefIdeal.nD Cert.SampleRefIdeal.τ).loc Cert.SampleRefIdeal.main_arg16) = m' ((c.tc : Thread Cert.SampleRefIdeal.nD Cert.SampleRefIdeal.τ).loc Cert.SampleRefIdeal.main_arg16)
          ∧ r.2.mem ((c.tc : Thread Cert.SampleRefIdeal.nD Cert.SampleRefIdeal.τ).loc Cert.SampleRefIdeal.main_arg17) = m' ((c.tc : Thread Cert.SampleRefIdeal.nD Cert.SampleRefIdeal.τ).loc Cert.SampleRefIdeal.main_arg17))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)) →
    ∃ (v0 : (c : Dev Cert.StepIdeal.nD) → Buf (Elt Ideal) ((c.tc : Thread Cert.StepIdeal.nD Cert.StepIdeal.τ).loc Cert.StepIdeal.main_v4_0)) (v1 : (c : Dev Cert.StepIdeal.nD) → Buf (Elt Ideal) ((c.tc : Thread Cert.StepIdeal.nD Cert.StepIdeal.τ).loc Cert.StepIdeal.main_v4_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v4_0) = v0 c
          ∧ r.2.mem ((c.tc : Thread Cert.StepIdeal.nD Cert.StepIdeal.τ).loc Cert.StepIdeal.main_v4_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v70) = v0 c
          ∧ r.2.mem ((c.tc : Thread Cert.StepRefIdeal.nD Cert.StepRefIdeal.τ).loc Cert.StepRefIdeal.main_v51) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5))

def Claim : Prop :=
  ∃ (hPrompt : Cert.Prompt.Facts) (hPromptIdeal : Cert.PromptIdeal.Facts) (hPromptRefIdeal : Cert.PromptRefIdeal.Facts) (hSample : Cert.Sample.Facts) (hSampleIdeal : Cert.SampleIdeal.Facts) (hSampleRefIdeal : Cert.SampleRefIdeal.Facts) (hStep : Cert.Step.Facts) (hStepIdeal : Cert.StepIdeal.Facts) (hStepRefIdeal : Cert.StepRefIdeal.Facts),
    quiescent_Prompt (hPrompt := hPrompt)
    ∧ quiescent_PromptIdeal (hPromptIdeal := hPromptIdeal)
    ∧ quiescent_PromptRefIdeal (hPromptRefIdeal := hPromptRefIdeal)
    ∧ quiescent_Sample (hSample := hSample)
    ∧ quiescent_SampleIdeal (hSampleIdeal := hSampleIdeal)
    ∧ quiescent_SampleRefIdeal (hSampleRefIdeal := hSampleRefIdeal)
    ∧ quiescent_Step (hStep := hStep)
    ∧ quiescent_StepIdeal (hStepIdeal := hStepIdeal)
    ∧ quiescent_StepRefIdeal (hStepRefIdeal := hStepRefIdeal)
    ∧ preserves_Prompt_PromptIdeal
    ∧ algebraic_PromptIdeal_PromptRefIdeal (hPromptIdeal := hPromptIdeal) (hPromptRefIdeal := hPromptRefIdeal)
    ∧ preserves_Sample_SampleIdeal
    ∧ algebraic_SampleIdeal_SampleRefIdeal (hSampleIdeal := hSampleIdeal) (hSampleRefIdeal := hSampleRefIdeal)
    ∧ preserves_Step_StepIdeal
    ∧ algebraic_StepIdeal_StepRefIdeal (hStepIdeal := hStepIdeal) (hStepRefIdeal := hStepRefIdeal)
-- ==== Prompt.lean ====
abbrev S32x2048x1024 : Shape := ⟨3, ![32, 2048, 1024]⟩
abbrev S32x1024 : Shape := ⟨2, ![32, 1024]⟩
abbrev S128x1024 : Shape := ⟨2, ![128, 1024]⟩
abbrev S1x1024x6144 : Shape := ⟨3, ![1, 1024, 6144]⟩
abbrev S1x6144 : Shape := ⟨2, ![1, 6144]⟩
abbrev S1x1024 : Shape := ⟨2, ![1, 1024]⟩
abbrev S1x1024x5632 : Shape := ⟨3, ![1, 1024, 5632]⟩
abbrev S32x2048x512 : Shape := ⟨3, ![32, 2048, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x5632 : Shape := ⟨2, ![1024, 5632]⟩
abbrev S1024x512 : Shape := ⟨2, ![1024, 512]⟩
abbrev S1024x2048 : Shape := ⟨2, ![1024, 2048]⟩
abbrev S1024x1024 : Shape := ⟨2, ![1024, 1024]⟩
abbrev S512x1024 : Shape := ⟨2, ![512, 1024]⟩
abbrev S1024x4096 : Shape := ⟨2, ![1024, 4096]⟩
abbrev S4096x1024 : Shape := ⟨2, ![4096, 1024]⟩
abbrev S160x1024 : Shape := ⟨2, ![160, 1024]⟩
abbrev S1024x6144 : Shape := ⟨2, ![1024, 6144]⟩
abbrev S160x6144 : Shape := ⟨2, ![160, 6144]⟩
abbrev S1024x1536 : Shape := ⟨2, ![1024, 1536]⟩
abbrev S1x1536 : Shape := ⟨2, ![1, 1536]⟩
abbrev S160x1536 : Shape := ⟨2, ![160, 1536]⟩
abbrev S32x6144 : Shape := ⟨2, ![32, 6144]⟩
abbrev S32x1x6144 : Shape := ⟨3, ![32, 1, 6144]⟩
abbrev S32x2048x2048 : Shape := ⟨3, ![32, 2048, 2048]⟩
abbrev S32x8x64x2048 : Shape := ⟨4, ![32, 8, 64, 2048]⟩
abbrev S1x1x6144 : Shape := ⟨3, ![1, 1, 6144]⟩
abbrev S1x512x512 : Shape := ⟨3, ![1, 512, 512]⟩
abbrev S1x512x2048 : Shape := ⟨3, ![1, 512, 2048]⟩
abbrev S1x8x64x512 : Shape := ⟨4, ![1, 8, 64, 512]⟩
abbrev S512 : Shape := ⟨1, ![512]⟩
abbrev S512x1 : Shape := ⟨2, ![512, 1]⟩
abbrev S512x512 : Shape := ⟨2, ![512, 512]⟩
abbrev S512x2048 : Shape := ⟨2, ![512, 2048]⟩
abbrev S8x64x512 : Shape := ⟨3, ![8, 64, 512]⟩
abbrev S1x256x1024 : Shape := ⟨3, ![1, 256, 1024]⟩
abbrev S1x256x512 : Shape := ⟨3, ![1, 256, 512]⟩
abbrev S1x256x2048 : Shape := ⟨3, ![1, 256, 2048]⟩
abbrev S256x2048 : Shape := ⟨2, ![256, 2048]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩

abbrev nBuf : Space → Nat
  | .hbm => 48
  | .vmem => 45
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S128x1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x5632, .f32⟩
  | .hbm, ⟨7, _⟩ => ⟨S32x2048x512, .f32⟩
  | .hbm, ⟨8, _⟩ => ⟨S32x2048x512, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S1x1024x4096, .f32⟩
  | .hbm, ⟨14, _⟩ => ⟨S1x4096x1024, .f32⟩
  | .hbm, ⟨15, _⟩ => ⟨S1024, .f32⟩
  | .hbm, ⟨16, _⟩ => ⟨S1024x5632, .f32⟩
  | .hbm, ⟨17, _⟩ => ⟨S1024x512, .f32⟩
  | .hbm, ⟨18, _⟩ => ⟨S1024x512, .bf16⟩
  | .hbm, ⟨19, _⟩ => ⟨S1024x2048, .f32⟩
  | .hbm, ⟨20, _⟩ => ⟨S1024x2048, .bf16⟩
  | .hbm, ⟨21, _⟩ => ⟨S1024x2048, .f32⟩
  | .hbm, ⟨22, _⟩ => ⟨S1024x2048, .bf16⟩
  | .hbm, ⟨23, _⟩ => ⟨S1024x1024, .f32⟩
  | .hbm, ⟨24, _⟩ => ⟨S1024x1024, .f32⟩
  | .hbm, ⟨25, _⟩ => ⟨S1024x1024, .bf16⟩
  | .hbm, ⟨26, _⟩ => ⟨S512x1024, .f32⟩
  | .hbm, ⟨27, _⟩ => ⟨S512x1024, .bf16⟩
  | .hbm, ⟨28, _⟩ => ⟨S512x1024, .f32⟩
  | .hbm, ⟨29, _⟩ => ⟨S512x1024, .bf16⟩
  | .hbm, ⟨30, _⟩ => ⟨S1024x1024, .f32⟩
  | .hbm, ⟨31, _⟩ => ⟨S1024x1024, .bf16⟩
  | .hbm, ⟨32, _⟩ => ⟨S1024x4096, .f32⟩
  | .hbm, ⟨33, _⟩ => ⟨S1024x4096, .bf16⟩
  | .hbm, ⟨34, _⟩ => ⟨S4096x1024, .f32⟩
  | .hbm, ⟨35, _⟩ => ⟨S4096x1024, .bf16⟩
  | .hbm, ⟨36, _⟩ => ⟨S1x1024, .f32⟩
  | .hbm, ⟨37, _⟩ => ⟨S160x1024, .f32⟩
  | .hbm, ⟨38, _⟩ => ⟨S1024x6144, .f32⟩
  | .hbm, ⟨39, _⟩ => ⟨S160x6144, .f32⟩
  | .hbm, ⟨40, _⟩ => ⟨S32x6144, .f32⟩
  | .hbm, ⟨41, _⟩ => ⟨S32x1x6144, .f32⟩
  | .hbm, ⟨42, _⟩ => ⟨S32x2048x512, .f32⟩
  | .hbm, ⟨43, _⟩ => ⟨S32x2048x2048, .f32⟩
  | .hbm, ⟨44, _⟩ => ⟨S32x2048x2048, .f32⟩
  | .hbm, ⟨45, _⟩ => ⟨S32x8x64x2048, .f32⟩
  | .hbm, ⟨46, _⟩ => ⟨S32x8x64x2048, .f32⟩
  | .hbm, ⟨47, _⟩ => ⟨S32x2048x1024, .f32⟩
  | .local _ .vmem, ⟨0, _⟩ => ⟨S160x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S160x1536, .f32⟩
  | .local _ .vmem, ⟨6, _⟩ => ⟨S160x1536, .f32⟩
  | .local _ .vmem, ⟨7, _⟩ => ⟨S1x512x1024, .f32⟩
  | .local _ .vmem, ⟨8, _⟩ => ⟨S1x512x1024, .f32⟩
  | .local _ .vmem, ⟨9, _⟩ => ⟨S1x1x6144, .f32⟩
  | .local _ .vmem, ⟨10, _⟩ => ⟨S1x1x6144, .f32⟩
  | .local _ .vmem, ⟨11, _⟩ => ⟨S1x1024, .f32⟩
  | .local _ .vmem, ⟨12, _⟩ => ⟨S1024x512, .bf16⟩
  | .local _ .vmem, ⟨13, _⟩ => ⟨S1024x2048, .bf16⟩
  | .local _ .vmem, ⟨14, _⟩ => ⟨S1024x2048, .bf16⟩
  | .local _ .vmem, ⟨15, _⟩ => ⟨S1024x1024, .bf16⟩
  | .local _ .vmem, ⟨16, _⟩ => ⟨S1x512x512, .f32⟩
  | .local _ .vmem, ⟨17, _⟩ => ⟨S1x512x512, .f32⟩
  | .local _ .vmem, ⟨18, _⟩ => ⟨S1x512x2048, .f32⟩
  | .local _ .vmem, ⟨19, _⟩ => ⟨S1x512x2048, .f32⟩
  | .local _ .vmem, ⟨20, _⟩ => ⟨S1x512x2048, .f32⟩
  | .local _ .vmem, ⟨21, _⟩ => ⟨S1x512x2048, .f32⟩
  | .local _ .vmem, ⟨22, _⟩ => ⟨S1x8x64x512, .f32⟩
  | .local _ .vmem, ⟨23, _⟩ => ⟨S1x8x64x512, .f32⟩
  | .local _ .vmem, ⟨24, _⟩ => ⟨S1x8x64x512, .f32⟩
  | .local _ .vmem, ⟨25, _⟩ => ⟨S1x8x64x512, .f32⟩
  | .local _ .vmem, ⟨26, _⟩ => ⟨S1x256x1024, .f32⟩
  | .local _ .vmem, ⟨27, _⟩ => ⟨S1x256x1024, .f32⟩
  | .local _ .vmem, ⟨28, _⟩ => ⟨S1x256x512, .f32⟩
  | .local _ .vmem, ⟨29, _⟩ => ⟨S1x256x512, .f32⟩
  | .local _ .vmem, ⟨30, _⟩ => ⟨S1x256x512, .f32⟩
  | .local _ .vmem, ⟨31, _⟩ => ⟨S1x256x512, .f32⟩
  | .local _ .vmem, ⟨32, _⟩ => ⟨S1x256x2048, .f32⟩
  | .local _ .vmem, ⟨33, _⟩ => ⟨S1x256x2048, .f32⟩
  | .local _ .vmem, ⟨34, _⟩ => ⟨S1x1x6144, .f32⟩
  | .local _ .vmem, ⟨35, _⟩ => ⟨S1x1x6144, .f32⟩
  | .local _ .vmem, ⟨36, _⟩ => ⟨S512x1024, .bf16⟩
  | .local _ .vmem, ⟨37, _⟩ => ⟨S512x1024, .bf16⟩
  | .local _ .vmem, ⟨38, _⟩ => ⟨S1024x1024, .bf16⟩
  | .local _ .vmem, ⟨39, _⟩ => ⟨S1x1024, .f32⟩
  | .local _ .vmem, ⟨40, _⟩ => ⟨S1024x4096, .bf16⟩
  | .local _ .vmem, ⟨41, _⟩ => ⟨S4096x1024, .bf16⟩
  | .local _ .vmem, ⟨42, _⟩ => ⟨S1x1024, .f32⟩
  | .local _ .vmem, ⟨43, _⟩ => ⟨S1x256x1024, .f32⟩
  | .local _ .vmem, ⟨44, _⟩ => ⟨S1x256x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v26_2 : Ref sig .tc := ⟨.hbm, 44, rfl⟩
abbrev main_v26_3 : Ref sig .tc := ⟨.hbm, 45, rfl⟩
abbrev main_v26_4 : Ref sig .tc := ⟨.hbm, 46, rfl⟩
abbrev main_v27 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg12_0 : Ref sig .tc := ⟨.vmem, 43, rfl⟩
abbrev cc2_stg12_1 : Ref sig .tc := ⟨.vmem, 44, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem11_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem12_0 : DmaSem sig := 43
abbrev cc2_sem12_1 : DmaSem sig := 44

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x6144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x512x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x8x64x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x8x64x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev grid2 : Pipeline.Grid := ⟨2, ![32, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x6144 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S512x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S512x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1024x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1024x4096 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S4096x1024 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 2 → Memref sig .tc .vmem S1x256x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]
-- ==== PromptRefIdeal.lean ====
abbrev S32x2048x1024 : Shape := ⟨3, ![32, 2048, 1024]⟩
abbrev S32x1024 : Shape := ⟨2, ![32, 1024]⟩
abbrev S128x1024 : Shape := ⟨2, ![128, 1024]⟩
abbrev S1x1024x6144 : Shape := ⟨3, ![1, 1024, 6144]⟩
abbrev S1x6144 : Shape := ⟨2, ![1, 6144]⟩
abbrev S1x1024 : Shape := ⟨2, ![1, 1024]⟩
abbrev S1x1024x5632 : Shape := ⟨3, ![1, 1024, 5632]⟩
abbrev S32x2048x512 : Shape := ⟨3, ![32, 2048, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S1024x6144 : Shape := ⟨2, ![1024, 6144]⟩
abbrev S32x6144 : Shape := ⟨2, ![32, 6144]⟩
abbrev S6144 : Shape := ⟨1, ![6144]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S1024x5632 : Shape := ⟨2, ![1024, 5632]⟩
abbrev S32x2048x5632 : Shape := ⟨3, ![32, 2048, 5632]⟩
abbrev S512x1024 : Shape := ⟨2, ![512, 1024]⟩
abbrev S1024x1024 : Shape := ⟨2, ![1024, 1024]⟩
abbrev S1024x4096 : Shape := ⟨2, ![1024, 4096]⟩
abbrev S32x2048x4096 : Shape := ⟨3, ![32, 2048, 4096]⟩
abbrev S4096x1024 : Shape := ⟨2, ![4096, 1024]⟩
abbrev S32x2048x2048 : Shape := ⟨3, ![32, 2048, 2048]⟩
abbrev S32x2048x8x64 : Shape := ⟨4, ![32, 2048, 8, 64]⟩
abbrev S32x8x64x2048 : Shape := ⟨4, ![32, 8, 64, 2048]⟩

abbrev nBuf : Space → Nat
  | .hbm => 162
  | .vmem => 0
  | .smem => 0
  | _ => 0

abbrev hbmTy0_0 (i : Nat) : BufTy := match i % 128 with
  | 0 => ⟨S32x2048x1024, .f32⟩
  | 1 => ⟨S32x1024, .f32⟩
  | 2 => ⟨S128x1024, .f32⟩
  | 3 => ⟨S1x1024x6144, .f32⟩
  | 4 => ⟨S1x6144, .f32⟩
  | 5 => ⟨S1x1024, .f32⟩
  | 6 => ⟨S1x1024x5632, .f32⟩
  | 7 => ⟨S32x2048x512, .f32⟩
  | 8 => ⟨S32x2048x512, .f32⟩
  | 9 => ⟨S1x512x1024, .f32⟩
  | 10 => ⟨S1x512x1024, .f32⟩
  | 11 => ⟨S1x1024x1024, .f32⟩
  | 12 => ⟨S1x1024, .f32⟩
  | 13 => ⟨S1x1024x4096, .f32⟩
  | 14 => ⟨S1x4096x1024, .f32⟩
  | 15 => ⟨S1024, .f32⟩
  | 16 => ⟨S32x1024, .f32⟩
  | 17 => ⟨S32x1024, .f32⟩
  | 18 => ⟨S_, .f32⟩
  | 19 => ⟨S32x1024, .f32⟩
  | 20 => ⟨S32x1024, .f32⟩
  | 21 => ⟨S_, .f32⟩
  | 22 => ⟨S32x1024, .f32⟩
  | 23 => ⟨S32x1024, .f32⟩
  | 24 => ⟨S32x1024, .f32⟩
  | 25 => ⟨S1024x6144, .f32⟩
  | 26 => ⟨S32x6144, .f32⟩
  | 27 => ⟨S6144, .f32⟩
  | 28 => ⟨S1x6144, .f32⟩
  | 29 => ⟨S32x6144, .f32⟩
  | 30 => ⟨S32x6144, .f32⟩
  | 31 => ⟨S32x1024, .f32⟩
  | 32 => ⟨S32x1024, .f32⟩
  | 33 => ⟨S32x1024, .f32⟩
  | 34 => ⟨S32x1024, .f32⟩
  | 35 => ⟨S32x1024, .f32⟩
  | 36 => ⟨S32x1024, .f32⟩
  | 37 => ⟨S1024, .f32⟩
  | 38 => ⟨S32x2048x1024, .f32⟩
  | 39 => ⟨S_, .f32⟩
  | 40 => ⟨S32x2048, .f32⟩
  | 41 => ⟨S32x2048x1, .f32⟩
  | 42 => ⟨S_, .f32⟩
  | 43 => ⟨S32x2048x1, .f32⟩
  | 44 => ⟨S32x2048x1, .f32⟩
  | 45 => ⟨S_, .f32⟩
  | 46 => ⟨S32x2048x1, .f32⟩
  | 47 => ⟨S32x2048x1, .f32⟩
  | 48 => ⟨S32x2048x1, .f32⟩
  | 49 => ⟨S32x2048x1024, .f32⟩
  | 50 => ⟨S32x2048x1024, .f32⟩
  | 51 => ⟨S1x1x1024, .f32⟩
  | 52 => ⟨S32x2048x1024, .f32⟩
  | 53 => ⟨S32x2048x1024, .f32⟩
  | 54 => ⟨S32x1x1024, .f32⟩
  | 55 => ⟨S_, .f32⟩
  | 56 => ⟨S32x1x1024, .f32⟩
  | 57 => ⟨S32x1x1024, .f32⟩
  | 58 => ⟨S32x2048x1024, .f32⟩
  | 59 => ⟨S32x2048x1024, .f32⟩
  | 60 => ⟨S32x1x1024, .f32⟩
  | 61 => ⟨S32x2048x1024, .f32⟩
  | 62 => ⟨S32x2048x1024, .f32⟩
  | 63 => ⟨S1024x5632, .f32⟩
  | 64 => ⟨S32x2048x5632, .f32⟩
  | 65 => ⟨S32x2048x512, .f32⟩
  | 66 => ⟨S32x2048x512, .f32⟩
  | 67 => ⟨S32x2048x512, .f32⟩
  | 68 => ⟨S32x2048x512, .f32⟩
  | 69 => ⟨S32x2048x512, .f32⟩
  | 70 => ⟨S32x2048x512, .f32⟩
  | 71 => ⟨S32x2048x512, .f32⟩
  | 72 => ⟨S32x2048x1024, .f32⟩
  | 73 => ⟨S32x2048x1024, .f32⟩
  | 74 => ⟨S32x2048x1024, .f32⟩
  | 75 => ⟨S32x2048x1024, .f32⟩
  | 76 => ⟨S_, .f32⟩
  | 77 => ⟨S32x2048x1024, .f32⟩
  | 78 => ⟨S32x2048x1024, .f32⟩
  | 79 => ⟨S_, .f32⟩
  | 80 => ⟨S32x2048x1024, .f32⟩
  | 81 => ⟨S32x2048x1024, .f32⟩
  | 82 => ⟨S512x1024, .f32⟩
  | 83 => ⟨S32x2048x1024, .f32⟩
  | 84 => ⟨S32x2048x1024, .f32⟩
  | 85 => ⟨S32x2048x1024, .f32⟩
  | 86 => ⟨S32x2048x1024, .f32⟩
  | 87 => ⟨S_, .f32⟩
  | 88 => ⟨S32x2048x1024, .f32⟩
  | 89 => ⟨S32x2048x1024, .f32⟩
  | 90 => ⟨S_, .f32⟩
  | 91 => ⟨S32x2048x1024, .f32⟩
  | 92 => ⟨S32x2048x1024, .f32⟩
  | 93 => ⟨S512x1024, .f32⟩
  | 94 => ⟨S32x2048x1024, .f32⟩
  | 95 => ⟨S32x2048x1024, .f32⟩
  | 96 => ⟨S32x2048x1024, .f32⟩
  | 97 => ⟨S32x1x1024, .f32⟩
  | 98 => ⟨S1024x1024, .f32⟩
  | 99 => ⟨S32x2048x1024, .f32⟩
  | 100 => ⟨S32x2048x1024, .f32⟩
  | 101 => ⟨S32x2048x1024, .f32⟩
  | 102 => ⟨S32x2048x1024, .f32⟩
  | 103 => ⟨S1024, .f32⟩
  | 104 => ⟨S32x2048x1024, .f32⟩
  | 105 => ⟨S_, .f32⟩
  | 106 => ⟨S32x2048, .f32⟩
  | 107 => ⟨S32x2048x1, .f32⟩
  | 108 => ⟨S_, .f32⟩
  | 109 => ⟨S32x2048x1, .f32⟩
  | 110 => ⟨S32x2048x1, .f32⟩
  | 111 => ⟨S_, .f32⟩
  | 112 => ⟨S32x2048x1, .f32⟩
  | 113 => ⟨S32x2048x1, .f32⟩
  | 114 => ⟨S32x2048x1, .f32⟩
  | 115 => ⟨S32x2048x1024, .f32⟩
  | 116 => ⟨S32x2048x1024, .f32⟩
  | 117 => ⟨S1x1x1024, .f32⟩
  | 118 => ⟨S32x2048x1024, .f32⟩
  | 119 => ⟨S32x2048x1024, .f32⟩
  | 120 => ⟨S32x1x1024, .f32⟩
  | 121 => ⟨S_, .f32⟩
  | 122 => ⟨S32x1x1024, .f32⟩
  | 123 => ⟨S32x1x1024, .f32⟩
  | 124 => ⟨S32x2048x1024, .f32⟩
  | 125 => ⟨S32x2048x1024, .f32⟩
  | 126 => ⟨S32x1x1024, .f32⟩
  | 127 => ⟨S32x2048x1024, .f32⟩
  | _ => ⟨S32x2048x1024, .f32⟩

abbrev hbmTy0_1 (i : Nat) : BufTy := match i % 128 with
  | 0 => ⟨S32x2048x1024, .f32⟩
  | 1 => ⟨S32x1x1024, .f32⟩
  | 2 => ⟨S1024x4096, .f32⟩
  | 3 => ⟨S32x2048x4096, .f32⟩
  | 4 => ⟨S_, .f32⟩
  | 5 => ⟨S32x2048x4096, .f32⟩
  | 6 => ⟨S32x2048x4096, .f32⟩
  | 7 => ⟨S32x2048x4096, .f32⟩
  | 8 => ⟨S4096x1024, .f32⟩
  | 9 => ⟨S32x2048x1024, .f32⟩
  | 10 => ⟨S32x2048x1024, .f32⟩
  | 11 => ⟨S32x2048x1024, .f32⟩
  | 12 => ⟨S32x2048x1024, .f32⟩
  | 13 => ⟨S32x2048x1024, .f32⟩
  | 14 => ⟨S_, .f32⟩
  | 15 => ⟨S32x2048, .f32⟩
  | 16 => ⟨S32x2048x1, .f32⟩
  | 17 => ⟨S_, .f32⟩
  | 18 => ⟨S32x2048x1, .f32⟩
  | 19 => ⟨S32x2048x1, .f32⟩
  | 20 => ⟨S_, .f32⟩
  | 21 => ⟨S32x2048x1, .f32⟩
  | 22 => ⟨S32x2048x1, .f32⟩
  | 23 => ⟨S32x2048x1, .f32⟩
  | 24 => ⟨S32x2048x1024, .f32⟩
  | 25 => ⟨S32x2048x1024, .f32⟩
  | 26 => ⟨S1x1x1024, .f32⟩
  | 27 => ⟨S32x2048x1024, .f32⟩
  | 28 => ⟨S32x2048x1024, .f32⟩
  | 29 => ⟨S32x2048x2048, .f32⟩
  | 30 => ⟨S32x2048x8x64, .f32⟩
  | 31 => ⟨S32x8x64x2048, .f32⟩
  | 32 => ⟨S32x2048x8x64, .f32⟩
  | 33 => ⟨S32x8x64x2048, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_cst_0 : Ref sig .tc := ⟨.hbm, 42, rfl⟩
abbrev main_v17 : Ref sig .tc := ⟨.hbm, 43, rfl⟩
abbrev main_v18 : Ref sig .tc := ⟨.hbm, 44, rfl⟩
abbrev main_cst_1 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_3 : Ref sig .tc := ⟨.hbm, 76, rfl⟩
abbrev main_v48 : Ref sig .tc := ⟨.hbm, 77, rfl⟩
abbrev main_v49 : Ref sig .tc := ⟨.hbm, 78, rfl⟩
abbrev main_cst_4 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_5 : Ref sig .tc := ⟨.hbm, 87, rfl⟩
abbrev main_v57 : Ref sig .tc := ⟨.hbm, 88, rfl⟩
abbrev main_v58 : Ref sig .tc := ⟨.hbm, 89, rfl⟩
abbrev main_cst_6 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_7 : Ref sig .tc := ⟨.hbm, 105, rfl⟩
abbrev main_v73 : Ref sig .tc := ⟨.hbm, 106, rfl⟩
abbrev main_v74 : Ref sig .tc := ⟨.hbm, 107, rfl⟩
abbrev main_cst_8 : Ref sig .tc := ⟨.hbm, 108, rfl⟩
abbrev main_v75 : Ref sig .tc := ⟨.hbm, 109, rfl⟩
abbrev main_v76 : Ref sig .tc := ⟨.hbm, 110, rfl⟩
abbrev main_cst_9 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_10 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_call1_cst : Ref sig .tc := ⟨.hbm, 132, rfl⟩
abbrev main_call1_v0 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_11 : Ref sig .tc := ⟨.hbm, 142, rfl⟩
abbrev main_v104 : Ref sig .tc := ⟨.hbm, 143, rfl⟩
abbrev main_v105 : Ref sig .tc := ⟨.hbm, 144, rfl⟩
abbrev main_cst_12 : Ref sig .tc := ⟨.hbm, 145, rfl⟩
abbrev main_v106 : Ref sig .tc := ⟨.hbm, 146, rfl⟩
abbrev main_v107 : Ref sig .tc := ⟨.hbm, 147, rfl⟩
abbrev main_cst_13 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩

abbrev nD : Nat := 1
abbrev τ : Topo := Topo.v7x

variable {F : FTy → Type} [FloatOps F]
-- ==== Sample.lean ====
abbrev S128x1x1024 : Shape := ⟨3, ![128, 1, 1024]⟩
abbrev S32x1024 : Shape := ⟨2, ![32, 1024]⟩
abbrev S128x1024 : Shape := ⟨2, ![128, 1024]⟩
abbrev S1x1024x6144 : Shape := ⟨3, ![1, 1024, 6144]⟩
abbrev S1x6144 : Shape := ⟨2, ![1, 6144]⟩
abbrev S1x1024 : Shape := ⟨2, ![1, 1024]⟩
abbrev S1x1024x5632 : Shape := ⟨3, ![1, 1024, 5632]⟩
abbrev S128x1x512 : Shape := ⟨3, ![128, 1, 512]⟩
abbrev S2x512 : Shape := ⟨2, ![2, 512]⟩
abbrev S1x128 : Shape := ⟨2, ![1, 128]⟩
abbrev S1x128x4x128x128 : Shape := ⟨5, ![1, 128, 4, 128, 128]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x5632 : Shape := ⟨2, ![1024, 5632]⟩
abbrev S1024x512 : Shape := ⟨2, ![1024, 512]⟩
abbrev S1024x2048 : Shape := ⟨2, ![1024, 2048]⟩
abbrev S1024x1024 : Shape := ⟨2, ![1024, 1024]⟩
abbrev S1024x2560 : Shape := ⟨2, ![1024, 2560]⟩
abbrev S2560x1024 : Shape := ⟨2, ![2560, 1024]⟩
abbrev S512x1024 : Shape := ⟨2, ![512, 1024]⟩
abbrev S1024x4096 : Shape := ⟨2, ![1024, 4096]⟩
abbrev S4096x1024 : Shape := ⟨2, ![4096, 1024]⟩
abbrev S160x1024 : Shape := ⟨2, ![160, 1024]⟩
abbrev S1024x6144 : Shape := ⟨2, ![1024, 6144]⟩
abbrev S160x6144 : Shape := ⟨2, ![160, 6144]⟩
abbrev S1024x1536 : Shape := ⟨2, ![1024, 1536]⟩
abbrev S1x1536 : Shape := ⟨2, ![1, 1536]⟩
abbrev S160x1536 : Shape := ⟨2, ![160, 1536]⟩
abbrev S128x6144 : Shape := ⟨2, ![128, 6144]⟩
abbrev S1x128x6144 : Shape := ⟨3, ![1, 128, 6144]⟩
abbrev S1x128x1024 : Shape := ⟨3, ![1, 128, 1024]⟩
abbrev S1x128x512 : Shape := ⟨3, ![1, 128, 512]⟩
abbrev S1x128x2048 : Shape := ⟨3, ![1, 128, 2048]⟩
abbrev S1x8x64x128 : Shape := ⟨4, ![1, 8, 64, 128]⟩
abbrev S1x512x128 : Shape := ⟨3, ![1, 512, 128]⟩
abbrev S128 : Shape := ⟨1, ![128]⟩
abbrev S128x1 : Shape := ⟨2, ![128, 1]⟩
abbrev S128x512 : Shape := ⟨2, ![128, 512]⟩
abbrev S128x2048 : Shape := ⟨2, ![128, 2048]⟩
abbrev S2560x128 : Shape := ⟨2, ![2560, 128]⟩
abbrev S512x128 : Shape := ⟨2, ![512, 128]⟩
abbrev S8x64x128 : Shape := ⟨3, ![8, 64, 128]⟩
abbrev S1x1024x128 : Shape := ⟨3, ![1, 1024, 128]⟩
abbrev S128x1x2048 : Shape := ⟨3, ![128, 1, 2048]⟩
abbrev S512x2 : Shape := ⟨2, ![512, 2]⟩
abbrev S128x4x128x128 : Shape := ⟨4, ![128, 4, 128, 128]⟩
abbrev S8x1x2048 : Shape := ⟨3, ![8, 1, 2048]⟩
abbrev S8x4x128x128 : Shape := ⟨4, ![8, 4, 128, 128]⟩
abbrev S8x1x512 : Shape := ⟨3, ![8, 1, 512]⟩
abbrev S1024x128 : Shape := ⟨2, ![1024, 128]⟩
abbrev S512 : Shape := ⟨1, ![512]⟩
abbrev S512x1 : Shape := ⟨2, ![512, 1]⟩
abbrev S1024x1 : Shape := ⟨2, ![1024, 1]⟩
abbrev S1x1x2048 : Shape := ⟨3, ![1, 1, 2048]⟩
abbrev S1x2048 : Shape := ⟨2, ![1, 2048]⟩
abbrev S1x1x128x128 : Shape := ⟨4, ![1, 1, 128, 128]⟩
abbrev S128x128 : Shape := ⟨2, ![128, 128]⟩
abbrev S1 : Shape := ⟨1, ![1]⟩
abbrev S1x1 : Shape := ⟨2, ![1, 1]⟩
abbrev S1x1x128 : Shape := ⟨3, ![1, 1, 128]⟩
abbrev S128x4096 : Shape := ⟨2, ![128, 4096]⟩

abbrev nBuf : Space → Nat
  | .hbm => 65
  | .vmem => 46
  | .smem => 0
  | _ => 0

abbrev bufTy : (tb : Table) → Fin (tcTables nBuf tb) → BufTy
  | .hbm, ⟨0, _⟩ => ⟨S128x1x1024, .f32⟩
  | .hbm, ⟨1, _⟩ => ⟨S32x1024, .f32⟩
  | .hbm, ⟨2, _⟩ => ⟨S128x1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x5632, .f32⟩
  | .hbm, ⟨7, _⟩ => ⟨S128x1x512, .f32⟩
  | .hbm, ⟨8, _⟩ => ⟨S2x512, .f32⟩
  | .hbm, ⟨9, _⟩ => ⟨S1x128, .f32⟩
  | .hbm, ⟨10, _⟩ => ⟨S1x128x4x128x128, .f32⟩
  | .hbm, ⟨11, _⟩ => ⟨S1x512x1024, .f32⟩
  | .hbm, ⟨12, _⟩ => ⟨S1x512x1024, .f32⟩
  | .hbm, ⟨13, _⟩ => ⟨S1x1024x1024, .f32⟩
  | .hbm, ⟨14, _⟩ => ⟨S1x1024, .f32⟩
  | .hbm, ⟨15, _⟩ => ⟨S1x1024x4096, .f32⟩
  | .hbm, ⟨16, _⟩ => ⟨S1x4096x1024, .f32⟩
  | .hbm, ⟨17, _⟩ => ⟨S1024, .f32⟩
  | .hbm, ⟨18, _⟩ => ⟨S1024x5632, .f32⟩
  | .hbm, ⟨19, _⟩ => ⟨S1024x512, .f32⟩
  | .hbm, ⟨20, _⟩ => ⟨S1024x512, .bf16⟩
  | .hbm, ⟨21, _⟩ => ⟨S1024x2048, .f32⟩
  | .hbm, ⟨22, _⟩ => ⟨S1024x2048, .bf16⟩
  | .hbm, ⟨23, _⟩ => ⟨S1024x2048, .f32⟩
  | .hbm, ⟨24, _⟩ => ⟨S1024x2048, .bf16⟩
  | .hbm, ⟨25, _⟩ => ⟨S1024x1024, .f32⟩
  | .hbm, ⟨26, _⟩ => ⟨S1024x512, .f32⟩
  | .hbm, ⟨27, _⟩ => ⟨S1024x1024, .f32⟩
  | .hbm, ⟨28, _⟩ => ⟨S1024x2560, .f32⟩
  | .hbm, ⟨29, _⟩ => ⟨S2560x1024, .f32⟩
  | .hbm, ⟨30, _⟩ => ⟨S2560x1024, .bf16⟩
  | .hbm, ⟨31, _⟩ => ⟨S512x1024, .f32⟩
  | .hbm, ⟨32, _⟩ => ⟨S512x1024, .bf16⟩
  | .hbm, ⟨33, _⟩ => ⟨S512x1024, .f32⟩
  | .hbm, ⟨34, _⟩ => ⟨S512x1024, .bf16⟩
  | .hbm, ⟨35, _⟩ => ⟨S1024x1024, .f32⟩
  | .hbm, ⟨36, _⟩ => ⟨S1024x1024, .bf16⟩
  | .hbm, ⟨37, _⟩ => ⟨S1024x4096, .f32⟩
  | .hbm, ⟨38, _⟩ => ⟨S1024x4096, .bf16⟩
  | .hbm, ⟨39, _⟩ => ⟨S4096x1024, .f32⟩
  | .hbm, ⟨40, _⟩ => ⟨S4096x1024, .bf16⟩
  | .hbm, ⟨41, _⟩ => ⟨S1x1024, .f32⟩
  | .hbm, ⟨42, _⟩ => ⟨S160x1024, .f32⟩
  | .hbm, ⟨43, _⟩ => ⟨S1024x6144, .f32⟩
  | .hbm, ⟨44, _⟩ => ⟨S160x6144, .f32⟩
  | .hbm, ⟨45, _⟩ => ⟨S128x6144, .f32⟩
  | .hbm, ⟨46, _⟩ => ⟨S1x128x6144, .f32⟩
  | .hbm, ⟨47, _⟩ => ⟨S1x128x1024, .f32⟩
  | .hbm, ⟨48, _⟩ => ⟨S1x128x512, .f32⟩
  | .hbm, ⟨49, _⟩ => ⟨S1x128x2048, .f32⟩
  | .hbm, ⟨50, _⟩ => ⟨S1x128x2048, .f32⟩
  | .hbm, ⟨51, _⟩ => ⟨S1x8x64x128, .f32⟩
  | .hbm, ⟨52, _⟩ => ⟨S1x8x64x128, .f32⟩
  | .hbm, ⟨53, _⟩ => ⟨S1x512x128, .f32⟩
  | .hbm, ⟨54, _⟩ => ⟨S1x512x128, .f32⟩
  | .hbm, ⟨55, _⟩ => ⟨S1x512x128, .f32⟩
  | .hbm, ⟨56, _⟩ => ⟨S1x128x512, .f32⟩
  | .hbm, ⟨57, _⟩ => ⟨S1x1024x128, .f32⟩
  | .hbm, ⟨58, _⟩ => ⟨S128x1x2048, .f32⟩
  | .hbm, ⟨59, _⟩ => ⟨S512x2, .f32⟩
  | .hbm, ⟨60, _⟩ => ⟨S128x4x128x128, .f32⟩
  | .hbm, ⟨61, _⟩ => ⟨S128x1x512, .f32⟩
  | .hbm, ⟨62, _⟩ => ⟨S128x4x128x128, .f32⟩
  | .hbm, ⟨63, _⟩ => ⟨S1x128x512, .f32⟩
  | .hbm, ⟨64, _⟩ => ⟨S1x128x1024, .f32⟩
  | .local _ .vmem, ⟨0, _⟩ => ⟨S160x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S160x1536, .f32⟩
  | .local _ .vmem, ⟨6, _⟩ => ⟨S160x1536, .f32⟩
  | .local _ .vmem, ⟨7, _⟩ => ⟨S1x128x1024, .f32⟩
  | .local _ .vmem, ⟨8, _⟩ => ⟨S1x128x6144, .f32⟩
  | .local _ .vmem, ⟨9, _⟩ => ⟨S1x1024, .f32⟩
  | .local _ .vmem, ⟨10, _⟩ => ⟨S1024x512, .bf16⟩
  | .local _ .vmem, ⟨11, _⟩ => ⟨S1024x2048, .bf16⟩
  | .local _ .vmem, ⟨12, _⟩ => ⟨S1024x2048, .bf16⟩
  | .local _ .vmem, ⟨13, _⟩ => ⟨S2560x1024, .bf16⟩
  | .local _ .vmem, ⟨14, _⟩ => ⟨S1x128x512, .f32⟩
  | .local _ .vmem, ⟨15, _⟩ => ⟨S1x128x2048, .f32⟩
  | .local _ .vmem, ⟨16, _⟩ => ⟨S1x128x2048, .f32⟩
  | .local _ .vmem, ⟨17, _⟩ => ⟨S1x8x64x128, .f32⟩
  | .local _ .vmem, ⟨18, _⟩ => ⟨S1x8x64x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S1x1024x128, .f32⟩
  | .local _ .vmem, ⟨23, _⟩ => ⟨S8x1x2048, .f32⟩
  | .local _ .vmem, ⟨24, _⟩ => ⟨S8x1x2048, .f32⟩
  | .local _ .vmem, ⟨25, _⟩ => ⟨S512x2, .f32⟩
  | .local _ .vmem, ⟨26, _⟩ => ⟨S1x128, .f32⟩
  | .local _ .vmem, ⟨27, _⟩ => ⟨S8x4x128x128, .f32⟩
  | .local _ .vmem, ⟨28, _⟩ => ⟨S8x4x128x128, .f32⟩
  | .local _ .vmem, ⟨29, _⟩ => ⟨S8x1x512, .f32⟩
  | .local _ .vmem, ⟨30, _⟩ => ⟨S8x1x512, .f32⟩
  | .local _ .vmem, ⟨31, _⟩ => ⟨S8x4x128x128, .f32⟩
  | .local _ .vmem, ⟨32, _⟩ => ⟨S8x4x128x128, .f32⟩
  | .local _ .vmem, ⟨33, _⟩ => ⟨S1x128x1024, .f32⟩
  | .local _ .vmem, ⟨34, _⟩ => ⟨S1x128x512, .f32⟩
  | .local _ .vmem, ⟨35, _⟩ => ⟨S1x128x512, .f32⟩
  | .local _ .vmem, ⟨36, _⟩ => ⟨S1x128x2048, .f32⟩
  | .local _ .vmem, ⟨37, _⟩ => ⟨S1x128x6144, .f32⟩
  | .local _ .vmem, ⟨38, _⟩ => ⟨S512x1024, .bf16⟩
  | .local _ .vmem, ⟨39, _⟩ => ⟨S512x1024, .bf16⟩
  | .local _ .vmem, ⟨40, _⟩ => ⟨S1024x1024, .bf16⟩
  | .local _ .vmem, ⟨41, _⟩ => ⟨S1x1024, .f32⟩
  | .local _ .vmem, ⟨42, _⟩ => ⟨S1024x4096, .bf16⟩
  | .local _ .vmem, ⟨43, _⟩ => ⟨S4096x1024, .bf16⟩
  | .local _ .vmem, ⟨44, _⟩ => ⟨S1x1024, .f32⟩
  | .local _ .vmem, ⟨45, _⟩ => ⟨S1x128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_v30_2 : Ref sig .tc := ⟨.hbm, 50, rfl⟩
abbrev main_v30_3 : Ref sig .tc := ⟨.hbm, 51, rfl⟩
abbrev main_v30_4 : Ref sig .tc := ⟨.hbm, 52, rfl⟩
abbrev main_v30_5 : Ref sig .tc := ⟨.hbm, 53, rfl⟩
abbrev main_v30_6 : Ref sig .tc := ⟨.hbm, 54, rfl⟩
abbrev main_v30_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36_0 : Ref sig .tc := ⟨.hbm, 61, rfl⟩
abbrev main_v36_1 : Ref sig .tc := ⟨.hbm, 62, rfl⟩
abbrev main_v37 : Ref sig .tc := ⟨.hbm, 63, rfl⟩
abbrev main_v38 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg14_0 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg9_0 : Ref sig .tc := ⟨.vmem, 42, rfl⟩
abbrev cc3_stg10_0 : Ref sig .tc := ⟨.vmem, 43, rfl⟩
abbrev cc3_stg11_0 : Ref sig .tc := ⟨.vmem, 44, rfl⟩
abbrev cc3_stg12_0 : Ref sig .tc := ⟨.vmem, 45, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc2_sem0_0 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem8_0 : DmaSem sig := 41
abbrev cc3_sem9_0 : DmaSem sig := 42
abbrev cc3_sem10_0 : DmaSem sig := 43
abbrev cc3_sem11_0 : DmaSem sig := 44
abbrev cc3_sem12_0 : DmaSem sig := 45

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S1x128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x128x6144 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2560x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]

abbrev stage1_8 : Fin 1 → Memref sig .tc .vmem S1x128x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, true]

abbrev stage1_9 : Fin 1 → Memref sig .tc .vmem S1x128x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true, true]

abbrev stage1_10 : Fin 1 → Memref sig .tc .vmem S1x8x64x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true, true]

abbrev stage1_11 : Fin 1 → Memref sig .tc .vmem S1x8x64x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true, true]

abbrev stage1_12 : Fin 1 → Memref sig .tc .vmem S1x512x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true, true]

abbrev stage1_13 : Fin 1 → Memref sig .tc .vmem S1x512x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true, true]

abbrev stage1_14 : Fin 1 → Memref sig .tc .vmem S1x512x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![true, true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 1 → Memref sig .tc .vmem S1x1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S8x1x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8x4x128x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x4x128x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![1, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 1 → Memref sig .tc .vmem S1x128x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S1x128x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true]

abbrev stage3_2 : Fin 1 → Memref sig .tc .vmem S1x128x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev stage3_3 : Fin 1 → Memref sig .tc .vmem S1x128x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true]

abbrev stage3_4 : Fin 1 → Memref sig .tc .vmem S1x128x6144 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, false]

abbrev stage3_5 : Fin 1 → Memref sig .tc .vmem S512x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S512x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1024x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S1024x4096 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S4096x1024 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 1 → Memref sig .tc .vmem S1x1024 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]

abbrev stage3_12 : Fin 1 → Memref sig .tc .vmem S1x128x1024 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![true, true]
-- ==== SampleRefIdeal.lean ====
abbrev S128x1x1024 : Shape := ⟨3, ![128, 1, 1024]⟩
abbrev S32x1024 : Shape := ⟨2, ![32, 1024]⟩
abbrev S128x1024 : Shape := ⟨2, ![128, 1024]⟩
abbrev S1x1024x6144 : Shape := ⟨3, ![1, 1024, 6144]⟩
abbrev S1x6144 : Shape := ⟨2, ![1, 6144]⟩
abbrev S1x1024 : Shape := ⟨2, ![1, 1024]⟩
abbrev S1x1024x5632 : Shape := ⟨3, ![1, 1024, 5632]⟩
abbrev S128x1x512 : Shape := ⟨3, ![128, 1, 512]⟩
abbrev S2x512 : Shape := ⟨2, ![2, 512]⟩
abbrev S1x128 : Shape := ⟨2, ![1, 128]⟩
abbrev S1x128x4x128x128 : Shape := ⟨5, ![1, 128, 4, 128, 128]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S1024x6144 : Shape := ⟨2, ![1024, 6144]⟩
abbrev S128x6144 : Shape := ⟨2, ![128, 6144]⟩
abbrev S6144 : Shape := ⟨1, ![6144]⟩
abbrev S128 : Shape := ⟨1, ![128]⟩
abbrev S128x1 : Shape := ⟨2, ![128, 1]⟩
abbrev S1024x5632 : Shape := ⟨2, ![1024, 5632]⟩
abbrev S128x5632 : Shape := ⟨2, ![128, 5632]⟩
abbrev S128x512 : Shape := ⟨2, ![128, 512]⟩
abbrev S512 : Shape := ⟨1, ![512]⟩
abbrev S1x512 : Shape := ⟨2, ![1, 512]⟩
abbrev S4x128 : Shape := ⟨2, ![4, 128]⟩
abbrev S128x4x128 : Shape := ⟨3, ![128, 4, 128]⟩
abbrev S1x4x128 : Shape := ⟨3, ![1, 4, 128]⟩
abbrev S128x4x128x1 : Shape := ⟨4, ![128, 4, 128, 1]⟩
abbrev S128x4x128x128 : Shape := ⟨4, ![128, 4, 128, 128]⟩
abbrev S128x4x1x128 : Shape := ⟨4, ![128, 4, 1, 128]⟩
abbrev S128x4 : Shape := ⟨2, ![128, 4]⟩
abbrev S128x4x1 : Shape := ⟨3, ![128, 4, 1]⟩
abbrev S1x1x128 : Shape := ⟨3, ![1, 1, 128]⟩
abbrev S512x1024 : Shape := ⟨2, ![512, 1024]⟩
abbrev S1024x1024 : Shape := ⟨2, ![1024, 1024]⟩
abbrev S1024x4096 : Shape := ⟨2, ![1024, 4096]⟩
abbrev S128x4096 : Shape := ⟨2, ![128, 4096]⟩
abbrev S4096x1024 : Shape := ⟨2, ![4096, 1024]⟩
abbrev S1x128x1024 : Shape := ⟨3, ![1, 128, 1024]⟩
abbrev S128x8x64 : Shape := ⟨3, ![128, 8, 64]⟩
abbrev S8x64x128 : Shape := ⟨3, ![8, 64, 128]⟩
abbrev S1x8x64x128 : Shape := ⟨4, ![1, 8, 64, 128]⟩
abbrev S512x128 : Shape := ⟨2, ![512, 128]⟩
abbrev S1x512x128 : Shape := ⟨3, ![1, 512, 128]⟩

abbrev nBuf : Space → Nat
  | .hbm => 246
  | .vmem => 0
  | .smem => 0
  | _ => 0

abbrev hbmTy0_0 (i : Nat) : BufTy := match i % 128 with
  | 0 => ⟨S128x1x1024, .f32⟩
  | 1 => ⟨S32x1024, .f32⟩
  | 2 => ⟨S128x1024, .f32⟩
  | 3 => ⟨S1x1024x6144, .f32⟩
  | 4 => ⟨S1x6144, .f32⟩
  | 5 => ⟨S1x1024, .f32⟩
  | 6 => ⟨S1x1024x5632, .f32⟩
  | 7 => ⟨S128x1x512, .f32⟩
  | 8 => ⟨S2x512, .f32⟩
  | 9 => ⟨S1x128, .f32⟩
  | 10 => ⟨S1x128x4x128x128, .f32⟩
  | 11 => ⟨S1x512x1024, .f32⟩
  | 12 => ⟨S1x512x1024, .f32⟩
  | 13 => ⟨S1x1024x1024, .f32⟩
  | 14 => ⟨S1x1024, .f32⟩
  | 15 => ⟨S1x1024x4096, .f32⟩
  | 16 => ⟨S1x4096x1024, .f32⟩
  | 17 => ⟨S1024, .f32⟩
  | 18 => ⟨S128x1024, .f32⟩
  | 19 => ⟨S128x1024, .f32⟩
  | 20 => ⟨S128x1024, .f32⟩
  | 21 => ⟨S_, .f32⟩
  | 22 => ⟨S128x1024, .f32⟩
  | 23 => ⟨S128x1024, .f32⟩
  | 24 => ⟨S_, .f32⟩
  | 25 => ⟨S128x1024, .f32⟩
  | 26 => ⟨S128x1024, .f32⟩
  | 27 => ⟨S128x1024, .f32⟩
  | 28 => ⟨S1024x6144, .f32⟩
  | 29 => ⟨S128x6144, .f32⟩
  | 30 => ⟨S6144, .f32⟩
  | 31 => ⟨S1x6144, .f32⟩
  | 32 => ⟨S128x6144, .f32⟩
  | 33 => ⟨S128x6144, .f32⟩
  | 34 => ⟨S128x1024, .f32⟩
  | 35 => ⟨S128x1024, .f32⟩
  | 36 => ⟨S128x1024, .f32⟩
  | 37 => ⟨S128x1024, .f32⟩
  | 38 => ⟨S128x1024, .f32⟩
  | 39 => ⟨S128x1024, .f32⟩
  | 40 => ⟨S1024, .f32⟩
  | 41 => ⟨S128x1024, .f32⟩
  | 42 => ⟨S_, .f32⟩
  | 43 => ⟨S128, .f32⟩
  | 44 => ⟨S128x1, .f32⟩
  | 45 => ⟨S_, .f32⟩
  | 46 => ⟨S128x1, .f32⟩
  | 47 => ⟨S128x1, .f32⟩
  | 48 => ⟨S_, .f32⟩
  | 49 => ⟨S128x1, .f32⟩
  | 50 => ⟨S128x1, .f32⟩
  | 51 => ⟨S128x1, .f32⟩
  | 52 => ⟨S128x1024, .f32⟩
  | 53 => ⟨S128x1024, .f32⟩
  | 54 => ⟨S1x1024, .f32⟩
  | 55 => ⟨S128x1024, .f32⟩
  | 56 => ⟨S128x1024, .f32⟩
  | 57 => ⟨S_, .f32⟩
  | 58 => ⟨S128x1024, .f32⟩
  | 59 => ⟨S128x1024, .f32⟩
  | 60 => ⟨S128x1024, .f32⟩
  | 61 => ⟨S128x1024, .f32⟩
  | 62 => ⟨S1024x5632, .f32⟩
  | 63 => ⟨S128x5632, .f32⟩
  | 64 => ⟨S128x512, .f32⟩
  | 65 => ⟨S128x512, .f32⟩
  | 66 => ⟨S128x512, .f32⟩
  | 67 => ⟨S128x512, .f32⟩
  | 68 => ⟨S128x512, .f32⟩
  | 69 => ⟨S128x512, .f32⟩
  | 70 => ⟨S128x512, .f32⟩
  | 71 => ⟨S128x1024, .f32⟩
  | 72 => ⟨S128x1024, .f32⟩
  | 73 => ⟨S_, .f32⟩
  | 74 => ⟨S512, .f32⟩
  | 75 => ⟨S_, .f32⟩
  | 76 => ⟨S512, .f32⟩
  | 77 => ⟨S512, .f32⟩
  | 78 => ⟨S1x512, .f32⟩
  | 79 => ⟨S2x512, .f32⟩
  | 80 => ⟨S2x512, .f32⟩
  | 81 => ⟨S2x512, .f32⟩
  | 82 => ⟨S_, .f32⟩
  | 83 => ⟨S512, .f32⟩
  | 84 => ⟨S1x512, .f32⟩
  | 85 => ⟨S2x512, .f32⟩
  | 86 => ⟨S2x512, .f32⟩
  | 87 => ⟨S1x512, .f32⟩
  | 88 => ⟨S512, .f32⟩
  | 89 => ⟨S4x128, .f32⟩
  | 90 => ⟨S128x4x128, .f32⟩
  | 91 => ⟨S128x4x128, .f32⟩
  | 92 => ⟨S128x4x128, .f32⟩
  | 93 => ⟨S_, .f32⟩
  | 94 => ⟨S128x4x128, .f32⟩
  | 95 => ⟨S128x4x128, .f32⟩
  | 96 => ⟨S_, .f32⟩
  | 97 => ⟨S128x4x128, .f32⟩
  | 98 => ⟨S128x4x128, .f32⟩
  | 99 => ⟨S128x4x128, .f32⟩
  | 100 => ⟨S_, .f32⟩
  | 101 => ⟨S4x128, .f32⟩
  | 102 => ⟨S4x128, .f32⟩
  | 103 => ⟨S128x4x128, .f32⟩
  | 104 => ⟨S128x4x128, .f32⟩
  | 105 => ⟨S128x4x128, .f32⟩
  | 106 => ⟨S_, .f32⟩
  | 107 => ⟨S128x4x128, .f32⟩
  | 108 => ⟨S128x4x128, .f32⟩
  | 109 => ⟨S_, .f32⟩
  | 110 => ⟨S128x4x128, .f32⟩
  | 111 => ⟨S128x4x128, .f32⟩
  | 112 => ⟨S1x4x128, .f32⟩
  | 113 => ⟨S128x4x128, .f32⟩
  | 114 => ⟨S128x4x128, .f32⟩
  | 115 => ⟨S1x4x128, .f32⟩
  | 116 => ⟨S128x4x128, .f32⟩
  | 117 => ⟨S128x4x128, .f32⟩
  | 118 => ⟨S128x4x128x1, .f32⟩
  | 119 => ⟨S128x4x128x128, .f32⟩
  | 120 => ⟨S128x4x128x128, .f32⟩
  | 121 => ⟨S128x4x128x128, .f32⟩
  | 122 => ⟨S_, .f32⟩
  | 123 => ⟨S128x4x128, .f32⟩
  | 124 => ⟨S128x4x128, .f32⟩
  | 125 => ⟨S128x4x128x1, .f32⟩
  | 126 => ⟨S128x4x128, .f32⟩
  | 127 => ⟨S128x4x1x128, .f32⟩
  | _ => ⟨S128x1x1024, .f32⟩

abbrev hbmTy0_1 (i : Nat) : BufTy := match i % 128 with
  | 0 => ⟨S128x4x128x128, .f32⟩
  | 1 => ⟨S128x4x128x128, .f32⟩
  | 2 => ⟨S128x4x128x128, .f32⟩
  | 3 => ⟨S128x4x128x128, .f32⟩
  | 4 => ⟨S128x4x128, .f32⟩
  | 5 => ⟨S128, .f32⟩
  | 6 => ⟨S128x4x128, .f32⟩
  | 7 => ⟨S_, .f32⟩
  | 8 => ⟨S128x4, .f32⟩
  | 9 => ⟨S128x4x1, .f32⟩
  | 10 => ⟨S_, .f32⟩
  | 11 => ⟨S128x4x1, .f32⟩
  | 12 => ⟨S128x4x1, .f32⟩
  | 13 => ⟨S_, .f32⟩
  | 14 => ⟨S128x4x1, .f32⟩
  | 15 => ⟨S128x4x1, .f32⟩
  | 16 => ⟨S128x4x1, .f32⟩
  | 17 => ⟨S128x4x128, .f32⟩
  | 18 => ⟨S128x4x128, .f32⟩
  | 19 => ⟨S1x1x128, .f32⟩
  | 20 => ⟨S128x4x128, .f32⟩
  | 21 => ⟨S128x4x128, .f32⟩
  | 22 => ⟨S128x512, .f32⟩
  | 23 => ⟨S128x512, .f32⟩
  | 24 => ⟨S128x512, .f32⟩
  | 25 => ⟨S_, .f32⟩
  | 26 => ⟨S128x512, .f32⟩
  | 27 => ⟨S128x512, .f32⟩
  | 28 => ⟨S_, .f32⟩
  | 29 => ⟨S128x512, .f32⟩
  | 30 => ⟨S128x512, .f32⟩
  | 31 => ⟨S128x512, .f32⟩
  | 32 => ⟨S128x512, .f32⟩
  | 33 => ⟨S128x1024, .f32⟩
  | 34 => ⟨S128x1024, .f32⟩
  | 35 => ⟨S_, .f32⟩
  | 36 => ⟨S128x1024, .f32⟩
  | 37 => ⟨S128x1024, .f32⟩
  | 38 => ⟨S_, .f32⟩
  | 39 => ⟨S128x1024, .f32⟩
  | 40 => ⟨S128x1024, .f32⟩
  | 41 => ⟨S128x512, .f32⟩
  | 42 => ⟨S512x1024, .f32⟩
  | 43 => ⟨S128x1024, .f32⟩
  | 44 => ⟨S128x1024, .f32⟩
  | 45 => ⟨S128x1024, .f32⟩
  | 46 => ⟨S128x1024, .f32⟩
  | 47 => ⟨S_, .f32⟩
  | 48 => ⟨S128x1024, .f32⟩
  | 49 => ⟨S128x1024, .f32⟩
  | 50 => ⟨S_, .f32⟩
  | 51 => ⟨S128x1024, .f32⟩
  | 52 => ⟨S128x1024, .f32⟩
  | 53 => ⟨S512x1024, .f32⟩
  | 54 => ⟨S128x1024, .f32⟩
  | 55 => ⟨S128x1024, .f32⟩
  | 56 => ⟨S128x1024, .f32⟩
  | 57 => ⟨S1024x1024, .f32⟩
  | 58 => ⟨S128x1024, .f32⟩
  | 59 => ⟨S128x1024, .f32⟩
  | 60 => ⟨S128x1024, .f32⟩
  | 61 => ⟨S1024, .f32⟩
  | 62 => ⟨S128x1024, .f32⟩
  | 63 => ⟨S_, .f32⟩
  | 64 => ⟨S128, .f32⟩
  | 65 => ⟨S128x1, .f32⟩
  | 66 => ⟨S_, .f32⟩
  | 67 => ⟨S128x1, .f32⟩
  | 68 => ⟨S128x1, .f32⟩
  | 69 => ⟨S_, .f32⟩
  | 70 => ⟨S128x1, .f32⟩
  | 71 => ⟨S128x1, .f32⟩
  | 72 => ⟨S128x1, .f32⟩
  | 73 => ⟨S128x1024, .f32⟩
  | 74 => ⟨S128x1024, .f32⟩
  | 75 => ⟨S1x1024, .f32⟩
  | 76 => ⟨S128x1024, .f32⟩
  | 77 => ⟨S128x1024, .f32⟩
  | 78 => ⟨S_, .f32⟩
  | 79 => ⟨S128x1024, .f32⟩
  | 80 => ⟨S128x1024, .f32⟩
  | 81 => ⟨S128x1024, .f32⟩
  | 82 => ⟨S128x1024, .f32⟩
  | 83 => ⟨S1024x4096, .f32⟩
  | 84 => ⟨S128x4096, .f32⟩
  | 85 => ⟨S_, .f32⟩
  | 86 => ⟨S128x4096, .f32⟩
  | 87 => ⟨S128x4096, .f32⟩
  | 88 => ⟨S128x4096, .f32⟩
  | 89 => ⟨S4096x1024, .f32⟩
  | 90 => ⟨S128x1024, .f32⟩
  | 91 => ⟨S128x1024, .f32⟩
  | 92 => ⟨S128x1024, .f32⟩
  | 93 => ⟨S128x1024, .f32⟩
  | 94 => ⟨S_, .f32⟩
  | 95 => ⟨S128, .f32⟩
  | 96 => ⟨S128x1, .f32⟩
  | 97 => ⟨S_, .f32⟩
  | 98 => ⟨S128x1, .f32⟩
  | 99 => ⟨S128x1, .f32⟩
  | 100 => ⟨S_, .f32⟩
  | 101 => ⟨S128x1, .f32⟩
  | 102 => ⟨S128x1, .f32⟩
  | 103 => ⟨S128x1, .f32⟩
  | 104 => ⟨S128x1024, .f32⟩
  | 105 => ⟨S128x1024, .f32⟩
  | 106 => ⟨S1x1024, .f32⟩
  | 107 => ⟨S128x1024, .f32⟩
  | 108 => ⟨S128x1024, .f32⟩
  | 109 => ⟨S1x128x1024, .f32⟩
  | 110 => ⟨S128x8x64, .f32⟩
  | 111 => ⟨S8x64x128, .f32⟩
  | 112 => ⟨S1x8x64x128, .f32⟩
  | 113 => ⟨S128x8x64, .f32⟩
  | 114 => ⟨S8x64x128, .f32⟩
  | 115 => ⟨S1x8x64x128, .f32⟩
  | 116 => ⟨S512x128, .f32⟩
  | 117 => ⟨S1x512x128, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst : Ref sig .tc := ⟨.hbm, 42, rfl⟩
abbrev main_v16 : Ref sig .tc := ⟨.hbm, 43, rfl⟩
abbrev main_v17 : Ref sig .tc := ⟨.hbm, 44, rfl⟩
abbrev main_cst_0 : Ref sig .tc := ⟨.hbm, 45, rfl⟩
abbrev main_v18 : Ref sig .tc := ⟨.hbm, 46, rfl⟩
abbrev main_v19 : Ref sig .tc := ⟨.hbm, 47, rfl⟩
abbrev main_cst_1 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_2 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_3 : Ref sig .tc := ⟨.hbm, 73, rfl⟩
abbrev main_v43 : Ref sig .tc := ⟨.hbm, 74, rfl⟩
abbrev main_cst_4 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v58 : Ref sig .tc := ⟨.hbm, 99, rfl⟩
abbrev main_cst_6 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_7 : Ref sig .tc := ⟨.hbm, 106, rfl⟩
abbrev main_v64 : Ref sig .tc := ⟨.hbm, 107, rfl⟩
abbrev main_v65 : Ref sig .tc := ⟨.hbm, 108, rfl⟩
abbrev main_cst_8 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_9 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_10 : Ref sig .tc := ⟨.hbm, 135, rfl⟩
abbrev main_v90 : Ref sig .tc := ⟨.hbm, 136, rfl⟩
abbrev main_v91 : Ref sig .tc := ⟨.hbm, 137, rfl⟩
abbrev main_cst_11 : Ref sig .tc := ⟨.hbm, 138, rfl⟩
abbrev main_v92 : Ref sig .tc := ⟨.hbm, 139, rfl⟩
abbrev main_v93 : Ref sig .tc := ⟨.hbm, 140, rfl⟩
abbrev main_cst_12 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_call2_v0 : Ref sig .tc := ⟨.hbm, 151, rfl⟩
abbrev main_call2_v1 : Ref sig .tc := ⟨.hbm, 152, rfl⟩
abbrev main_call2_cst : Ref sig .tc := ⟨.hbm, 153, rfl⟩
abbrev main_call2_v2 : Ref sig .tc := ⟨.hbm, 154, rfl⟩
abbrev main_call2_v3 : Ref sig .tc := ⟨.hbm, 155, rfl⟩
abbrev main_call2_cst_0 : Ref sig .tc := ⟨.hbm, 156, rfl⟩
abbrev main_call2_v4 : Ref sig .tc := ⟨.hbm, 157, rfl⟩
abbrev main_call2_v5 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_13 : Ref sig .tc := ⟨.hbm, 163, rfl⟩
abbrev main_v107 : Ref sig .tc := ⟨.hbm, 164, rfl⟩
abbrev main_v108 : Ref sig .tc := ⟨.hbm, 165, rfl⟩
abbrev main_cst_14 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_15 : Ref sig .tc := ⟨.hbm, 175, rfl⟩
abbrev main_v117 : Ref sig .tc := ⟨.hbm, 176, rfl⟩
abbrev main_v118 : Ref sig .tc := ⟨.hbm, 177, rfl⟩
abbrev main_cst_16 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_17 : Ref sig .tc := ⟨.hbm, 191, rfl⟩
abbrev main_v131 : Ref sig .tc := ⟨.hbm, 192, rfl⟩
abbrev main_v132 : Ref sig .tc := ⟨.hbm, 193, rfl⟩
abbrev main_cst_18 : Ref sig .tc := ⟨.hbm, 194, rfl⟩
abbrev main_v133 : Ref sig .tc := ⟨.hbm, 195, rfl⟩
abbrev main_v134 : Ref sig .tc := ⟨.hbm, 196, rfl⟩
abbrev main_cst_19 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_20 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_call3_cst : Ref sig .tc := ⟨.hbm, 213, rfl⟩
abbrev main_call3_v0 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_cst_21 : Ref sig .tc := ⟨.hbm, 222, rfl⟩
abbrev main_v156 : Ref sig .tc := ⟨.hbm, 223, rfl⟩
abbrev main_v157 : Ref sig .tc := ⟨.hbm, 224, rfl⟩
abbrev main_cst_22 : Ref sig .tc := ⟨.hbm, 225, rfl⟩
abbrev main_v158 : Ref sig .tc := ⟨.hbm, 226, rfl⟩
abbrev main_v159 : Ref sig .tc := ⟨.hbm, 227, rfl⟩
abbrev main_cst_23 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩

abbrev nD : Nat := 1
abbrev τ : Topo := Topo.v7x

variable {F : FTy → Type} [FloatOps F]
-- ==== Step.lean ====
abbrev S1x512x128 : Shape := ⟨3, ![1, 512, 128]⟩
abbrev S1x128x2048 : Shape := ⟨3, ![1, 128, 2048]⟩
abbrev S2x512 : Shape := ⟨2, ![2, 512]⟩
abbrev S1x128 : Shape := ⟨2, ![1, 128]⟩
abbrev S1x128x4x128x128 : Shape := ⟨5, ![1, 128, 4, 128, 128]⟩
abbrev S1x1024x128 : Shape := ⟨3, ![1, 1024, 128]⟩
abbrev S128x1x2048 : Shape := ⟨3, ![128, 1, 2048]⟩
abbrev S512x2 : Shape := ⟨2, ![512, 2]⟩
abbrev S128x4x128x128 : Shape := ⟨4, ![128, 4, 128, 128]⟩
abbrev S128x1x512 : Shape := ⟨3, ![128, 1, 512]⟩
abbrev S8x1x2048 : Shape := ⟨3, ![8, 1, 2048]⟩
abbrev S8x4x128x128 : Shape := ⟨4, ![8, 4, 128, 128]⟩
abbrev S8x1x512 : Shape := ⟨3, ![8, 1, 512]⟩
abbrev S1024x128 : Shape := ⟨2, ![1024, 128]⟩
abbrev S512 : Shape := ⟨1, ![512]⟩
abbrev S512x1 : Shape := ⟨2, ![512, 1]⟩
abbrev S1024 : Shape := ⟨1, ![1024]⟩
abbrev S1024x1 : Shape := ⟨2, ![1024, 1]⟩
abbrev S1x1x2048 : Shape := ⟨3, ![1, 1, 2048]⟩
abbrev S1x2048 : Shape := ⟨2, ![1, 2048]⟩
abbrev S128x1 : Shape := ⟨2, ![128, 1]⟩
abbrev S1x1x128x128 : Shape := ⟨4, ![1, 1, 128, 128]⟩
abbrev S128x128 : Shape := ⟨2, ![128, 128]⟩
abbrev S128 : Shape := ⟨1, ![128]⟩
abbrev S1 : Shape := ⟨1, ![1]⟩
abbrev S1x1 : Shape := ⟨2, ![1, 1]⟩
abbrev S1x1x128 : Shape := ⟨3, ![1, 1, 128]⟩

abbrev nBuf : Space → Nat
  | .hbm => 12
  | .vmem => 11
  | .smem => 0
  | _ => 0

abbrev bufTy : (tb : Table) → Fin (tcTables nBuf tb) → BufTy
  | .hbm, ⟨0, _⟩ => ⟨S1x512x128, .f32⟩
  | .hbm, ⟨1, _⟩ => ⟨S1x512x128, .f32⟩
  | .hbm, ⟨2, _⟩ => ⟨S1x128x2048, .f32⟩
  | .hbm, ⟨3, _⟩ => ⟨S2x512, .f32⟩
  | .hbm, ⟨4, _⟩ => ⟨S1x128, .f32⟩
  | .hbm, ⟨5, _⟩ => ⟨S1x128x4x128x128, .f32⟩
  | .hbm, ⟨6, _⟩ => ⟨S1x1024x128, .f32⟩
  | .hbm, ⟨7, _⟩ => ⟨S128x1x2048, .f32⟩
  | .hbm, ⟨8, _⟩ => ⟨S512x2, .f32⟩
  | .hbm, ⟨9, _⟩ => ⟨S128x4x128x128, .f32⟩
  | .hbm, ⟨10, _⟩ => ⟨S128x1x512, .f32⟩
  | .hbm, ⟨11, _⟩ => ⟨S128x4x128x128, .f32⟩
  | .local _ .vmem, ⟨0, _⟩ => ⟨S1x1024x128, .f32⟩
  | .local _ .vmem, ⟨1, _⟩ => ⟨S8x1x2048, .f32⟩
  | .local _ .vmem, ⟨2, _⟩ => ⟨S8x1x2048, .f32⟩
  | .local _ .vmem, ⟨3, _⟩ => ⟨S512x2, .f32⟩
  | .local _ .vmem, ⟨4, _⟩ => ⟨S1x128, .f32⟩
  | .local _ .vmem, ⟨5, _⟩ => ⟨S8x4x128x128, .f32⟩
  | .local _ .vmem, ⟨6, _⟩ => ⟨S8x4x128x128, .f32⟩
  | .local _ .vmem, ⟨7, _⟩ => ⟨S8x1x512, .f32⟩
  | .local _ .vmem, ⟨8, _⟩ => ⟨S8x1x512, .f32⟩
  | .local _ .vmem, ⟨9, _⟩ => ⟨S8x4x128x128, .f32⟩
  | .local _ .vmem, ⟨10, _⟩ => ⟨S8x4x128x128, .f32⟩
  | _, _ => ⟨S1x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepRefIdeal.lean ====
abbrev S1x512x128 : Shape := ⟨3, ![1, 512, 128]⟩
abbrev S1x128x2048 : Shape := ⟨3, ![1, 128, 2048]⟩
abbrev S2x512 : Shape := ⟨2, ![2, 512]⟩
abbrev S1x128 : Shape := ⟨2, ![1, 128]⟩
abbrev S1x128x4x128x128 : Shape := ⟨5, ![1, 128, 4, 128, 128]⟩
abbrev S512x128 : Shape := ⟨2, ![512, 128]⟩
abbrev S128x512 : Shape := ⟨2, ![128, 512]⟩
abbrev S1x128x512 : Shape := ⟨3, ![1, 128, 512]⟩
abbrev S_ : Shape := ⟨0, ![]⟩
abbrev S512 : Shape := ⟨1, ![512]⟩
abbrev S1x512 : Shape := ⟨2, ![1, 512]⟩
abbrev S4x128 : Shape := ⟨2, ![4, 128]⟩
abbrev S128x4x128 : Shape := ⟨3, ![128, 4, 128]⟩
abbrev S1x4x128 : Shape := ⟨3, ![1, 4, 128]⟩
abbrev S128x4x128x1 : Shape := ⟨4, ![128, 4, 128, 1]⟩
abbrev S128x4x128x128 : Shape := ⟨4, ![128, 4, 128, 128]⟩
abbrev S128x4x1x128 : Shape := ⟨4, ![128, 4, 1, 128]⟩
abbrev S128 : Shape := ⟨1, ![128]⟩
abbrev S128x4 : Shape := ⟨2, ![128, 4]⟩
abbrev S128x4x1 : Shape := ⟨3, ![128, 4, 1]⟩
abbrev S1x1x128 : Shape := ⟨3, ![1, 1, 128]⟩
abbrev S128x1x512 : Shape := ⟨3, ![128, 1, 512]⟩

abbrev nBuf : Space → Nat
  | .hbm => 103
  | .vmem => 0
  | .smem => 0
  | _ => 0

abbrev bufTy : (tb : Table) → Fin (tcTables nBuf tb) → BufTy
  | .hbm, ⟨0, _⟩ => ⟨S1x512x128, .f32⟩
  | .hbm, ⟨1, _⟩ => ⟨S1x512x128, .f32⟩
  | .hbm, ⟨2, _⟩ => ⟨S1x128x2048, .f32⟩
  | .hbm, ⟨3, _⟩ => ⟨S2x512, .f32⟩
  | .hbm, ⟨4, _⟩ => ⟨S1x128, .f32⟩
  | .hbm, ⟨5, _⟩ => ⟨S1x128x4x128x128, .f32⟩
  | .hbm, ⟨6, _⟩ => ⟨S512x128, .f32⟩
  | .hbm, ⟨7, _⟩ => ⟨S128x512, .f32⟩
  | .hbm, ⟨8, _⟩ => ⟨S512x128, .f32⟩
  | .hbm, ⟨9, _⟩ => ⟨S128x512, .f32⟩
  | .hbm, ⟨10, _⟩ => ⟨S1x128x512, .f32⟩
  | .hbm, ⟨11, _⟩ => ⟨S128x512, .f32⟩
  | .hbm, ⟨12, _⟩ => ⟨S1x128x512, .f32⟩
  | .hbm, ⟨13, _⟩ => ⟨S128x512, .f32⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S1x512, .f32⟩
  | .hbm, ⟨20, _⟩ => ⟨S2x512, .f32⟩
  | .hbm, ⟨21, _⟩ => ⟨S2x512, .f32⟩
  | .hbm, ⟨22, _⟩ => ⟨S2x512, .f32⟩
  | .hbm, ⟨23, _⟩ => ⟨S_, .f32⟩
  | .hbm, ⟨24, _⟩ => ⟨S512, .f32⟩
  | .hbm, ⟨25, _⟩ => ⟨S1x512, .f32⟩
  | .hbm, ⟨26, _⟩ => ⟨S2x512, .f32⟩
  | .hbm, ⟨27, _⟩ => ⟨S2x512, .f32⟩
  | .hbm, ⟨28, _⟩ => ⟨S1x512, .f32⟩
  | .hbm, ⟨29, _⟩ => ⟨S512, .f32⟩
  | .hbm, ⟨30, _⟩ => ⟨S4x128, .f32⟩
  | .hbm, ⟨31, _⟩ => ⟨S128x4x128, .f32⟩
  | .hbm, ⟨32, _⟩ => ⟨S128x4x128, .f32⟩
  | .hbm, ⟨33, _⟩ => ⟨S128x4x128, .f32⟩
  | .hbm, ⟨34, _⟩ => ⟨S_, .f32⟩
  | .hbm, ⟨35, _⟩ => ⟨S128x4x128, .f32⟩
  | .hbm, ⟨36, _⟩ => ⟨S128x4x128, .f32⟩
  | .hbm, ⟨37, _⟩ => ⟨S_, .f32⟩
  | .hbm, ⟨38, _⟩ => ⟨S128x4x128, .f32⟩
  | .hbm, ⟨39, _⟩ => ⟨S128x4x128, .f32⟩
  | .hbm, ⟨40, _⟩ => ⟨S128x4x128, .f32⟩
  | .hbm, ⟨41, _⟩ => ⟨S_, .f32⟩
  | .hbm, ⟨42, _⟩ => ⟨S4x128, .f32⟩
  | .hbm, ⟨43, _⟩ => ⟨S4x128, .f32⟩
  | .hbm, ⟨44, _⟩ => ⟨S128x4x128, .f32⟩
  | .hbm, ⟨45, _⟩ => ⟨S128x4x128, .f32⟩
  | .hbm, ⟨46, _⟩ => ⟨S128x4x128, .f32⟩
  | .hbm, ⟨47, _⟩ => ⟨S_, .f32⟩
  | .hbm, ⟨48, _⟩ => ⟨S128x4x128, .f32⟩
  | .hbm, ⟨49, _⟩ => ⟨S128x4x128, .f32⟩
  | .hbm, ⟨50, _⟩ => ⟨S_, .f32⟩
  | .hbm, ⟨51, _⟩ => ⟨S128x4x128, .f32⟩
  | .hbm, ⟨52, _⟩ => ⟨S128x4x128, .f32⟩
  | .hbm, ⟨53, _⟩ => ⟨S1x4x128, .f32⟩
  | .hbm, ⟨54, _⟩ => ⟨S128x4x128, .f32⟩
  | .hbm, ⟨55, _⟩ => ⟨S128x4x128, .f32⟩
  | .hbm, ⟨56, _⟩ => ⟨S1x4x128, .f32⟩
  | .hbm, ⟨57, _⟩ => ⟨S128x4x128, .f32⟩
  | .hbm, ⟨58, _⟩ => ⟨S128x4x128, .f32⟩
  | .hbm, ⟨59, _⟩ => ⟨S128x4x128x1, .f32⟩
  | .hbm, ⟨60, _⟩ => ⟨S128x4x128x128, .f32⟩
  | .hbm, ⟨61, _⟩ => ⟨S128x4x128x128, .f32⟩
  | .hbm, ⟨62, _⟩ => ⟨S128x4x128x128, .f32⟩
  | .hbm, ⟨63, _⟩ => ⟨S_, .f32⟩
  | .hbm, ⟨64, _⟩ => ⟨S128x4x128, .f32⟩
  | .hbm, ⟨65, _⟩ => ⟨S128x4x128, .f32⟩
  | .hbm, ⟨66, _⟩ => ⟨S128x4x128x1, .f32⟩
  | .hbm, ⟨67, _⟩ => ⟨S128x4x128, .f32⟩
  | .hbm, ⟨68, _⟩ => ⟨S128x4x1x128, .f32⟩
  | .hbm, ⟨69, _⟩ => ⟨S128x4x128x128, .f32⟩
  | .hbm, ⟨70, _⟩ => ⟨S128x4x128x128, .f32⟩
  | .hbm, ⟨71, _⟩ => ⟨S128x4x128x128, .f32⟩
  | .hbm, ⟨72, _⟩ => ⟨S128x4x128x128, .f32⟩
  | .hbm, ⟨73, _⟩ => ⟨S128x4x128, .f32⟩
  | .hbm, ⟨74, _⟩ => ⟨S128, .f32⟩
  | .hbm, ⟨75, _⟩ => ⟨S128x4x128, .f32⟩
  | .hbm, ⟨76, _⟩ => ⟨S_, .f32⟩
  | .hbm, ⟨77, _⟩ => ⟨S128x4, .f32⟩
  | .hbm, ⟨78, _⟩ => ⟨S128x4x1, .f32⟩
  | .hbm, ⟨79, _⟩ => ⟨S_, .f32⟩
  | .hbm, ⟨80, _⟩ => ⟨S128x4x1, .f32⟩
  | .hbm, ⟨81, _⟩ => ⟨S128x4x1, .f32⟩
  | .hbm, ⟨82, _⟩ => ⟨S_, .f32⟩
  | .hbm, ⟨83, _⟩ => ⟨S128x4x1, .f32⟩
  | .hbm, ⟨84, _⟩ => ⟨S128x4x1, .f32⟩
  | .hbm, ⟨85, _⟩ => ⟨S128x4x1, .f32⟩
  | .hbm, ⟨86, _⟩ => ⟨S128x4x128, .f32⟩
  | .hbm, ⟨87, _⟩ => ⟨S128x4x128, .f32⟩
  | .hbm, ⟨88, _⟩ => ⟨S1x1x128, .f32⟩
  | .hbm, ⟨89, _⟩ => ⟨S128x4x128, .f32⟩
  | .hbm, ⟨90, _⟩ => ⟨S128x4x128, .f32⟩
  | .hbm, ⟨91, _⟩ => ⟨S128x512, .f32⟩
  | .hbm, ⟨92, _⟩ => ⟨S128x512, .f32⟩
  | .hbm, ⟨93, _⟩ => ⟨S128x512, .f32⟩
  | .hbm, ⟨94, _⟩ => ⟨S_, .f32⟩
  | .hbm, ⟨95, _⟩ => ⟨S128x512, .f32⟩
  | .hbm, ⟨96, _⟩ => ⟨S128x512, .f32⟩
  | .hbm, ⟨97, _⟩ => ⟨S_, .f32⟩
  | .hbm, ⟨98, _⟩ => ⟨S128x512, .f32⟩
  | .hbm, ⟨99, _⟩ => ⟨S128x512, .f32⟩
  | .hbm, ⟨100, _⟩ => ⟨S128x512, .f32⟩
  | .hbm, ⟨101, _⟩ => ⟨S128x512, .f32⟩
  | .hbm, ⟨102, _⟩ => ⟨S128x1x512, .f32⟩
  | _, _ => ⟨S1x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_call1_v5 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Proof.PromptStages.lean ====
module

public import proofs.«01_k».proof.Proof.Gen.PromptIdeal.Skeleton
public import proofs.«01_k».proof.Proof.Gen.PromptRefIdeal.Run
public import Idealize.ShloMosaic.Lib.Pointwise

/-! The prompt's calls, stage by stage.

The reference's term is named in stages: the conditioning (`cond`), the normalised and modulated rows (`modulated`), the
projection of all columns (`proj`) and its parts, the residual stream after the two mixers (`mixed`) and after the
feed-forward block (`fed`), and the weighted normalisation (`rms`). Each stage of the three kernels' bodies is compared
with its stage of the reference at one row: sequence `n`, and `row r` for the block's row `r`. -/

@[expose] public section

set_option maxRecDepth 16384

noncomputable section

open Idealize.ShloMosaic Idealize.ShloMosaic.TcCoe Idealize.SL.Sem

namespace Cert.PromptStages

section Reference
open Cert.PromptRefIdeal Cert.PromptRefIdeal.Gen

/-- The conditioning: the activated input through its linear map. -/
def cond (C : FVec Ideal S32x1024 .f32) (W : FVec Ideal S1x1024x6144 .f32) (B : FVec Ideal S1x6144 .f32) : FVec Ideal S32x6144 .f32 :=
  addf (Host.dotGeneral dot_S32x1024_S1024x6144_S32x6144_1_0_0_1_n_n none
      (mulf C (Host.divf (broadcastInDim S32x1024 ![] bcast_S_S32x1024 (constant S_ .f32 0x3F800000#32))
        (addf (broadcastInDim S32x1024 ![] bcast_S_S32x1024 (constant S_ .f32 0x3F800000#32)) (Host.exp (Host.negf C)))))
      (shapeCast _ W shapeCasts_S1x1024x6144_S1024x6144))
    (broadcastInDim S32x6144 ![0, 1] bcast_S1x6144_S32x6144_0_1 (broadcastInDim S1x6144 ![1] bcast_S6144_S1x6144_1
      (shapeCast _ B shapeCasts_S1x6144_S6144)))

/-- The logistic function of an array, as the reference spells it. -/
def gate (x : FVec Ideal S32x2048x1024 .f32) : FVec Ideal S32x2048x1024 .f32 :=
  Host.divf (broadcastInDim S32x2048x1024 ![] bcast_S_S32x2048x1024 (constant S_ .f32 0x3F800000#32))
    (addf (broadcastInDim S32x2048x1024 ![] bcast_S_S32x2048x1024 (constant S_ .f32 0x3F800000#32)) (Host.exp (Host.negf x)))

/-- A row of the conditioning array, along every position of its sequence. -/
def along (x : FVec Ideal S32x1024 .f32) : FVec Ideal S32x2048x1024 .f32 :=
  broadcastInDim S32x2048x1024 ![0, 1, 2] bcast_S32x1x1024_S32x2048x1024_0_1_2 (broadcastInDim S32x1x1024 ![0, 2] bcast_S32x1024_S32x1x1024_0_2 x)

/-- The weighted root-mean-square normalisation of every row. -/
def rms (Z : FVec Ideal S32x2048x1024 .f32) (W : FVec Ideal S1024 .f32) : FVec Ideal S32x2048x1024 .f32 :=
  mulf (mulf Z (broadcastInDim S32x2048x1024 ![0, 1, 2] bcast_S32x2048x1_S32x2048x1024_0_1_2 (Host.rsqrt
      (addf (Host.divf (broadcastInDim S32x2048x1 ![0, 1] bcast_S32x2048_S32x2048x1_0_1
          (Host.reduceAdd (mulf Z Z) (constant S_ .f32 0x00000000#32) reducesTo_S32x2048x1024_S32x2048_d2 h_S_))
          (broadcastInDim S32x2048x1 ![] bcast_S_S32x2048x1 (constant S_ .f32 0x44800000#32)))
        (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 W))

/-- The normalised rows, scaled and shifted by two parts of the conditioning. -/
def modulated (Z : FVec Ideal S32x2048x1024 .f32) (N : FVec Ideal S1x1024 .f32) (sh sc : FVec Ideal S32x1024 .f32) : FVec Ideal S32x2048x1024 .f32 :=
  addf (mulf (rms Z (shapeCast _ N shapeCasts_S1x1024_S1024))
      (broadcastInDim S32x2048x1024 ![0, 1, 2] bcast_S32x1x1024_S32x2048x1024_0_1_2
        (addf (broadcastInDim S32x1x1024 ![] bcast_S_S32x1x1024 (constant S_ .f32 0x3F800000#32))
          (broadcastInDim S32x1x1024 ![0, 2] bcast_S32x1024_S32x1x1024_0_2 sc))))
    (along sh)

/-- The rows the projection reads. -/
def normed (X : FVec Ideal S32x2048x1024 .f32) (A : FVec Ideal S32x6144 .f32) (N : FVec Ideal S1x1024 .f32) : FVec Ideal S32x2048x1024 .f32 :=
  modulated X N (extractStridedSlice S32x1024 ![0, 0] A slices_S32x6144_S32x1024_0_0)
    (extractStridedSlice S32x1024 ![0, 1024] A slices_S32x6144_S32x1024_0_1024)

/-- The projection of the normalised rows, all columns. -/
def proj (H : FVec Ideal S32x2048x1024 .f32) (W : FVec Ideal S1x1024x5632 .f32) : FVec Ideal S32x2048x5632 .f32 :=
  Host.dotGeneral dot_S32x2048x1024_S1024x5632_S32x2048x5632_2_0_01_1_n_n none H (shapeCast _ W shapeCasts_S1x1024x5632_S1024x5632)

/-- The attention's queries. -/
def queries (P : FVec Ideal S32x2048x5632 .f32) : FVec Ideal S32x2048x512 .f32 :=
  extractStridedSlice S32x2048x512 ![0, 0, 0] P slices_S32x2048x5632_S32x2048x512_0_0_0

/-- The recurrence's four inputs, side by side. -/
def recur (P : FVec Ideal S32x2048x5632 .f32) : FVec Ideal S32x2048x2048 .f32 :=
  concatenate S32x2048x2048 2 [⟨S32x2048x512, extractStridedSlice S32x2048x512 ![0, 0, 1536] P slices_S32x2048x5632_S32x2048x512_0_0_1536⟩,
    ⟨S32x2048x512, extractStridedSlice S32x2048x512 ![0, 0, 2048] P slices_S32x2048x5632_S32x2048x512_0_0_2048⟩,
    ⟨S32x2048x512, extractStridedSlice S32x2048x512 ![0, 0, 2560] P slices_S32x2048x5632_S32x2048x512_0_0_2560⟩,
    ⟨S32x2048x512, extractStridedSlice S32x2048x512 ![0, 0, 3072] P slices_S32x2048x5632_S32x2048x512_0_0_3072⟩]
    concatenates_S32x2048x512_S32x2048x512_S32x2048x512_S32x2048x512_S32x2048x2048_d2

/-- The two gates, side by side: the projection's last columns. -/
def gates (P : FVec Ideal S32x2048x5632 .f32) : FVec Ideal S32x2048x2048 .f32 :=
  fun i => P (ix3 (i 0) (i 1) ⟨3584 + (i 2).val, by have : (i 2).val < 2048 := (i 2).isLt; omega⟩)

/-- The attention's keys: heads, features, positions. -/
def keys (P : FVec Ideal S32x2048x5632 .f32) : FVec Ideal S32x8x64x2048 .f32 :=
  transpose S32x8x64x2048 [0, 2, 3, 1] (shapeCast _ (extractStridedSlice S32x2048x512 ![0, 0, 512] P slices_S32x2048x5632_S32x2048x512_0_0_512)
    shapeCasts_S32x2048x512_S32x2048x8x64) transposes_S32x2048x8x64_S32x8x64x2048_0_2_3_1

/-- The attention's values: heads, features, positions. -/
def vals (P : FVec Ideal S32x2048x5632 .f32) : FVec Ideal S32x8x64x2048 .f32 :=
  transpose S32x8x64x2048 [0, 2, 3, 1] (shapeCast _ (extractStridedSlice S32x2048x512 ![0, 0, 1024] P slices_S32x2048x5632_S32x2048x512_0_0_1024)
    shapeCasts_S32x2048x512_S32x2048x8x64) transposes_S32x2048x8x64_S32x8x64x2048_0_2_3_1

/-- The residual stream after the two mixers, merged by their gates. -/
def mixed (X : FVec Ideal S32x2048x1024 .f32) (OA OH : FVec Ideal S32x2048x512 .f32) (P : FVec Ideal S32x2048x5632 .f32)
    (A : FVec Ideal S32x6144 .f32) (WA WH : FVec Ideal S1x512x1024 .f32) (WO : FVec Ideal S1x1024x1024 .f32) : FVec Ideal S32x2048x1024 .f32 :=
  addf X (mulf (along (extractStridedSlice S32x1024 ![0, 2048] A slices_S32x6144_S32x1024_0_2048))
    (Host.dotGeneral dot_S32x2048x1024_S1024x1024_S32x2048x1024_2_0_01_1_n_n none
      (addf
        (mulf (gate (extractStridedSlice S32x2048x1024 ![0, 0, 3584] P slices_S32x2048x5632_S32x2048x1024_0_0_3584))
          (Host.dotGeneral dot_S32x2048x512_S512x1024_S32x2048x1024_2_0_01_1_n_n none OA (shapeCast _ WA shapeCasts_S1x512x1024_S512x1024)))
        (mulf (gate (extractStridedSlice S32x2048x1024 ![0, 0, 4608] P slices_S32x2048x5632_S32x2048x1024_0_0_4608))
          (Host.dotGeneral dot_S32x2048x512_S512x1024_S32x2048x1024_2_0_01_1_n_n none OH (shapeCast _ WH shapeCasts_S1x512x1024_S512x1024))))
      (shapeCast _ WO shapeCasts_S1x1024x1024_S1024x1024)))

/-- The residual stream after the feed-forward block. -/
def fed (Z : FVec Ideal S32x2048x1024 .f32) (A : FVec Ideal S32x6144 .f32) (N : FVec Ideal S1x1024 .f32)
    (W1 : FVec Ideal S1x1024x4096 .f32) (W2 : FVec Ideal S1x4096x1024 .f32) : FVec Ideal S32x2048x1024 .f32 :=
  let U : FVec Ideal S32x2048x4096 .f32 :=
    maximumf (Host.dotGeneral dot_S32x2048x1024_S1024x4096_S32x2048x4096_2_0_01_1_n_n none
        (modulated Z N (extractStridedSlice S32x1024 ![0, 3072] A slices_S32x6144_S32x1024_0_3072)
          (extractStridedSlice S32x1024 ![0, 4096] A slices_S32x6144_S32x1024_0_4096))
        (shapeCast _ W1 shapeCasts_S1x1024x4096_S1024x4096))
      (broadcastInDim S32x2048x4096 ![] bcast_S_S32x2048x4096 (constant S_ .f32 0x00000000#32))
  addf Z (mulf (along (extractStridedSlice S32x1024 ![0, 5120] A slices_S32x6144_S32x1024_0_5120))
    (Host.dotGeneral dot_S32x2048x4096_S4096x1024_S32x2048x1024_2_0_01_1_n_n none (mulf U U) (shapeCast _ W2 shapeCasts_S1x4096x1024_S4096x1024)))

section Composed
variable (g : Valuation τ sig (Elt Ideal))

/-- The reference's conditioning, from its arguments. -/
abbrev refCond : FVec Ideal S32x6144 .f32 :=
  cond (g (Proc.devRef .tc main_arg1)) (g (Proc.devRef .tc main_arg3)) (g (Proc.devRef .tc main_arg4))
/-- The reference's projection, from its arguments. -/
abbrev refProj : FVec Ideal S32x2048x5632 .f32 :=
  proj (normed (g (Proc.devRef .tc main_arg0)) (refCond g) (g (Proc.devRef .tc main_arg5))) (g (Proc.devRef .tc main_arg6))

/-- The reference's projection is its stages composed. -/
theorem proj_eq : Value.res_main_v36 g = refProj g := rfl

/-- The reference's last residual stream is its stages composed. -/
theorem fed_eq : Value.res_main_v102 g
    = fed (mixed (g (Proc.devRef .tc main_arg0)) (g (Proc.devRef .tc main_arg7)) (g (Proc.devRef .tc main_arg8)) (refProj g) (refCond g)
        (g (Proc.devRef .tc main_arg9)) (g (Proc.devRef .tc main_arg10)) (g (Proc.devRef .tc main_arg11)))
      (refCond g) (g (Proc.devRef .tc main_arg12)) (g (Proc.devRef .tc main_arg13)) (g (Proc.devRef .tc main_arg14)) := rfl

end Composed

variable (P : FVec Ideal S32x2048x5632 .f32) (n : Fin 32) (s : Fin 2048)

theorem queries_at (l : Fin 512) : queries P (ix3 n s l) = P (ix3 n s ⟨l.val, by omega⟩) := by
  pointwise [queries]

theorem recur_at (l : Fin 2048) : recur P (ix3 n s l) = P (ix3 n s ⟨1536 + l.val, by omega⟩) := by
  pointwise [recur]
  repeat' split
  all_goals first | rfl | exact congrArg P (congrArg (ix3 n s) (Fin.ext (by simp only; omega)))

theorem gates_at (l : Fin 2048) : gates P (ix3 n s l) = P (ix3 n s ⟨3584 + l.val, by omega⟩) := by
  rfl

theorem keys_at (a : Fin 8) (b : Fin 64) : keys P (ix4 n a b s) = P (ix3 n s ⟨512 + (a.val * 64 + b.val), by omega⟩) := by
  pointwise [keys]

theorem vals_at (a : Fin 8) (b : Fin 64) : vals P (ix4 n a b s) = P (ix3 n s ⟨1024 + (a.val * 64 + b.val), by omega⟩) := by
  pointwise [vals]

theorem proj_at (H : FVec Ideal S32x2048x1024 .f32) (W : FVec Ideal S1x1024x5632 .f32) (l : Fin 5632) :
    proj H W (ix3 n s l) = ∑ k : Fin 1024, H (ix3 n s k) * W (ix3 0 k l) := by
  pointwise [proj]

end Reference

section Conditioning
open Cert.PromptIdeal Cert.PromptIdeal.Gen

/-- The conditioning of every row the kernel's call is given, the prompt's and the samples'. -/
def condAll (C : FVec Ideal S160x1024 .f32) (W : FVec Ideal S1024x6144 .f32) (B : FVec Ideal S1x6144 .f32) : FVec Ideal S160x6144 .f32 :=
  fun y => (∑ k : Fin 1024, C (ix2 (y 0) k) * Ideal.logistic (C (ix2 (y 0) k)) * W (ix2 k (y 1))) + B (ix2 0 (y 1))

/-- A block of the conditioning kernel: all rows, the columns `col`. -/
theorem condAll_at (v0 : Vec Ideal S160x1024 .f32) (v4 : Vec Ideal S1024x1536 .f32) (v7 : Vec Ideal S1x1536 .f32)
    (C : FVec Ideal S160x1024 .f32) (W : FVec Ideal S1024x6144 .f32) (B : FVec Ideal S1x6144 .f32) (col : Fin 1536 → Fin 6144)
    (h0 : ∀ (i : Fin 160) (k : Fin 1024), v0 (ix2 i k) = C (ix2 i k)) (h4 : ∀ (k : Fin 1024) (l : Fin 1536), v4 (ix2 k l) = W (ix2 k (col l)))
    (h7 : ∀ l : Fin 1536, v7 (ix2 0 l) = B (ix2 0 (col l))) (i : Fin 160) (l : Fin 1536) :
    k0_pay1 v0 v4 v7 (ix2 i l) = condAll C W B (ix2 i (col l)) := by
  pointwise [k0_pay1, h0, h4, h7]
  rfl

/-- The first rows are the reference's conditioning of the prompt. -/
theorem condAll_cond (C' : FVec Ideal S160x1024 .f32) (W' : FVec Ideal S1024x6144 .f32) (B : FVec Ideal S1x6144 .f32)
    (C : FVec Ideal Cert.PromptRefIdeal.S32x1024 .f32) (W : FVec Ideal Cert.PromptRefIdeal.S1x1024x6144 .f32) (n : Fin 32)
    (hC : ∀ k : Fin 1024, C' (ix2 ⟨n.val, by omega⟩ k) = C (ix2 n k)) (hW : ∀ (k : Fin 1024) (l : Fin 6144), W' (ix2 k l) = W (ix3 0 k l)) (l : Fin 6144) :
    condAll C' W' B (ix2 ⟨n.val, by omega⟩ l) = cond C W B (ix2 n l) := by
  have e : condAll C' W' B (ix2 ⟨n.val, by omega⟩ l)
      = (∑ k : Fin 1024, C' (ix2 ⟨n.val, by omega⟩ k) * Ideal.logistic (C' (ix2 ⟨n.val, by omega⟩ k)) * W' (ix2 k l)) + B (ix2 0 l) := rfl
  rw [e]
  pointwise [cond, hC, hW]
  rfl

end Conditioning

section Projection
open Cert.PromptIdeal Cert.PromptIdeal.Gen

variable (n : Fin 32) (row : Fin 512 → Fin 2048)

/-- A block's normalised rows are the reference's. -/
theorem normed_at (v0 : Vec Ideal S1x1x6144 .f32) (v2 : Vec Ideal S1x512x1024 .f32) (v4 : Vec Ideal S1x1024 .f32)
    (X : FVec Ideal Cert.PromptRefIdeal.S32x2048x1024 .f32) (A : FVec Ideal Cert.PromptRefIdeal.S32x6144 .f32) (N : FVec Ideal Cert.PromptRefIdeal.S1x1024 .f32)
    (h0 : ∀ l : Fin 6144, v0 (ix3 0 0 l) = A (ix2 n l)) (h2 : ∀ (r : Fin 512) (l : Fin 1024), v2 (ix3 0 r l) = X (ix3 n (row r) l))
    (h4 : ∀ l : Fin 1024, v4 (ix2 0 l) = N (ix2 0 l)) (r : Fin 512) (l : Fin 1024) :
    k1_pay6 v0 v2 v4 (ix2 r l) = normed X A N (ix3 n (row r) l) := by
  pointwise [k1_pay6, normed, modulated, rms, along, h0, h2, h4]

variable (v0 : Vec Ideal S1x1x6144 .f32) (v2 : Vec Ideal S1x512x1024 .f32) (v4 : Vec Ideal S1x1024 .f32) (H : FVec Ideal Cert.PromptRefIdeal.S32x2048x1024 .f32)
    (W : FVec Ideal Cert.PromptRefIdeal.S1x1024x5632 .f32)

theorem pay7_at (v26 : Vec Ideal S1024x512 .bf16)
    (h : ∀ (r : Fin 512) (l : Fin 1024), k1_pay6 v0 v2 v4 (ix2 r l) = H (ix3 n (row r) l))
    (hw : ∀ (k : Fin 1024) (l : Fin 512), v26 (ix2 k l) = W (ix3 0 k ⟨l.val, by omega⟩)) (r : Fin 512) (l : Fin 512) :
    k1_pay7 v0 v2 v4 v26 (ix3 0 r l) = queries (proj H W) (ix3 n (row r) l) := by
  rw [queries_at, proj_at]
  pointwise [k1_pay7, h, hw]

theorem pay8_at (v32 : Vec Ideal S1024x2048 .bf16)
    (h : ∀ (r : Fin 512) (l : Fin 1024), k1_pay6 v0 v2 v4 (ix2 r l) = H (ix3 n (row r) l))
    (hw : ∀ (k : Fin 1024) (l : Fin 2048), v32 (ix2 k l) = W (ix3 0 k ⟨1536 + l.val, by omega⟩)) (r : Fin 512) (l : Fin 2048) :
    k1_pay1 (k1_pay8 v0 v2 v4 v32) (ix3 0 r l) = recur (proj H W) (ix3 n (row r) l) := by
  rw [recur_at, proj_at]
  pointwise [k1_pay1, k1_pay8, h, hw]

theorem pay2_at (v25 : FVec Ideal S512x1024 .bf16) (v38 : Vec Ideal S1024x2048 .bf16)
    (h : ∀ (r : Fin 512) (l : Fin 1024), v25 (ix2 r l) = H (ix3 n (row r) l))
    (hw : ∀ (k : Fin 1024) (l : Fin 2048), v38 (ix2 k l) = W (ix3 0 k ⟨3584 + l.val, by omega⟩)) (r : Fin 512) (l : Fin 2048) :
    k1_pay2 v25 v38 (ix3 0 r l) = gates (proj H W) (ix3 n (row r) l) := by
  rw [gates_at, proj_at]
  pointwise [k1_pay2, h, hw]

theorem pay4_at (v25 : FVec Ideal S512x1024 .bf16) (v44 : Vec Ideal S1024x1024 .bf16)
    (h : ∀ (r : Fin 512) (l : Fin 1024), v25 (ix2 r l) = H (ix3 n (row r) l))
    (hw : ∀ (l : Fin 1024) (k : Fin 1024), v44 (ix2 l k) = W (ix3 0 k ⟨512 + l.val, by omega⟩)) (a : Fin 8) (b : Fin 64) (r : Fin 512) :
    k1_pay4 v25 v44 (ix4 0 a b r) = keys (proj H W) (ix4 n a b (row r)) := by
  rw [keys_at, proj_at]
  pointwise [k1_pay4, k1_pay3, h, hw]
  exact Finset.sum_congr rfl fun _ _ => mul_comm _ _

theorem pay5_at (v25 : FVec Ideal S512x1024 .bf16) (v44 : Vec Ideal S1024x1024 .bf16)
    (h : ∀ (r : Fin 512) (l : Fin 1024), v25 (ix2 r l) = H (ix3 n (row r) l))
    (hw : ∀ (l : Fin 1024) (k : Fin 1024), v44 (ix2 l k) = W (ix3 0 k ⟨512 + l.val, by omega⟩)) (a : Fin 8) (b : Fin 64) (r : Fin 512) :
    k1_pay5 v25 v44 (ix4 0 a b r) = vals (proj H W) (ix4 n a b (row r)) := by
  rw [vals_at, proj_at]
  pointwise [k1_pay5, k1_pay3, h, hw]
  exact Finset.sum_congr rfl fun x _ => (mul_comm _ _).trans (congrArg (fun q => H (ix3 n (row r) x) * W (ix3 0 x q)) (Fin.ext (by simp only; omega)))

end Projection

section FeedForward
open Cert.PromptIdeal Cert.PromptIdeal.Gen

variable (n : Fin 32) (row : Fin 256 → Fin 2048)

/-- A block's rows after the mixers are the reference's. -/
theorem mixed_at (v0 : Vec Ideal S1x1x6144 .f32) (v2 : Vec Ideal S1x256x2048 .f32) (v4 : Vec Ideal S1x256x512 .f32) (v7 : Vec Ideal S512x1024 .bf16)
    (v10 : Vec Ideal S1x256x512 .f32) (v13 : Vec Ideal S512x1024 .bf16) (v23 : Vec Ideal S1x256x1024 .f32) (v27 : Vec Ideal S1024x1024 .bf16)
    (X : FVec Ideal Cert.PromptRefIdeal.S32x2048x1024 .f32) (OA OH : FVec Ideal Cert.PromptRefIdeal.S32x2048x512 .f32) (P : FVec Ideal Cert.PromptRefIdeal.S32x2048x5632 .f32)
    (A : FVec Ideal Cert.PromptRefIdeal.S32x6144 .f32) (WA WH : FVec Ideal Cert.PromptRefIdeal.S1x512x1024 .f32) (WO : FVec Ideal Cert.PromptRefIdeal.S1x1024x1024 .f32)
    (h0 : ∀ l : Fin 6144, v0 (ix3 0 0 l) = A (ix2 n l)) (h2 : ∀ (r : Fin 256) (l : Fin 2048), v2 (ix3 0 r l) = gates P (ix3 n (row r) l))
    (h4 : ∀ (r : Fin 256) (l : Fin 512), v4 (ix3 0 r l) = OA (ix3 n (row r) l)) (h7 : ∀ (k : Fin 512) (l : Fin 1024), v7 (ix2 k l) = WA (ix3 0 k l))
    (h10 : ∀ (r : Fin 256) (l : Fin 512), v10 (ix3 0 r l) = OH (ix3 n (row r) l)) (h13 : ∀ (k : Fin 512) (l : Fin 1024), v13 (ix2 k l) = WH (ix3 0 k l))
    (h23 : ∀ (r : Fin 256) (l : Fin 1024), v23 (ix3 0 r l) = X (ix3 n (row r) l)) (h27 : ∀ (k : Fin 1024) (l : Fin 1024), v27 (ix2 k l) = WO (ix3 0 k l))
    (r : Fin 256) (l : Fin 1024) :
    k2_pay3 v0 v2 v4 v7 v10 v13 v23 v27 (ix2 r l) = mixed X OA OH P A WA WH WO (ix3 n (row r) l) := by
  pointwise [k2_pay3, k2_pay2, mixed, gate, gates_at, along, h0, h2, h4, h7, h10, h13, h23, h27]
  have e : ∀ x : Fin 1024, (⟨3584 + (1024 + x.val), by omega⟩ : Fin 5632) = ⟨4608 + x.val, by omega⟩ :=
    fun x => Fin.ext (by simp only; omega)
  simp only [e]
  rfl

/-- A block's rows after the feed-forward block are the reference's. -/
theorem fed_at (v1 : FVec Ideal S1x6144 .f32) (v32 : FVec Ideal S256x1024 .f32) (v33 : Vec Ideal S1x1024 .f32) (v55 : Vec Ideal S1024x4096 .bf16) (v63 : Vec Ideal S4096x1024 .bf16)
    (Z : FVec Ideal Cert.PromptRefIdeal.S32x2048x1024 .f32) (A : FVec Ideal Cert.PromptRefIdeal.S32x6144 .f32) (N : FVec Ideal Cert.PromptRefIdeal.S1x1024 .f32)
    (W1 : FVec Ideal Cert.PromptRefIdeal.S1x1024x4096 .f32) (W2 : FVec Ideal Cert.PromptRefIdeal.S1x4096x1024 .f32)
    (h1 : ∀ l : Fin 6144, v1 (ix2 0 l) = A (ix2 n l)) (h32 : ∀ (r : Fin 256) (l : Fin 1024), v32 (ix2 r l) = Z (ix3 n (row r) l))
    (h33 : ∀ l : Fin 1024, v33 (ix2 0 l) = N (ix2 0 l)) (h55 : ∀ (k : Fin 1024) (l : Fin 4096), v55 (ix2 k l) = W1 (ix3 0 k l))
    (h63 : ∀ (k : Fin 4096) (l : Fin 1024), v63 (ix2 k l) = W2 (ix3 0 k l)) (r : Fin 256) (l : Fin 1024) :
    k2_pay4 v1 v32 v33 v55 v63 (ix2 r l) = fed Z A N W1 W2 (ix3 n (row r) l) := by
  pointwise [k2_pay4, fed, modulated, rms, along, h1, h32, h33, h55, h63]

/-- What the body stores, at a row of the block, is the reference's result at that row. -/
theorem rms_at (v1 : FVec Ideal S1x6144 .f32) (v32 : FVec Ideal S256x1024 .f32) (v33 : Vec Ideal S1x1024 .f32) (v55 : Vec Ideal S1024x4096 .bf16) (v63 : Vec Ideal S4096x1024 .bf16)
    (v79 : Vec Ideal S1x1024 .f32) (Z : FVec Ideal Cert.PromptRefIdeal.S32x2048x1024 .f32) (W : FVec Ideal Cert.PromptRefIdeal.S1024 .f32)
    (h : ∀ (r : Fin 256) (l : Fin 1024), k2_pay4 v1 v32 v33 v55 v63 (ix2 r l) = Z (ix3 n (row r) l))
    (h79 : ∀ l : Fin 1024, v79 (ix2 0 l) = W (ix1 l)) (r : Fin 256) (l : Fin 1024) :
    k2_pay1 (k2_pay4 v1 v32 v33 v55 v63) (k2_pay5 v1 v32 v33 v55 v63) v79 (ix3 0 r l) = rms Z W (ix3 n (row r) l) := by
  pointwise [k2_pay1, k2_pay5, rms, h, h79]

end FeedForward

end Cert.PromptStages

end
-- ==== Proof.PromptCond.lean ====
module

public import proofs.«01_k».proof.Proof.Gen.PromptIdeal.Frame
public import proofs.«01_k».proof.Proof.PromptStages
public import Idealize.ShloMosaic.Lib.Pipeline.ValueKit
public import Idealize.ShloMosaic.Lib.StableHlo.Run

/-! The conditioning call's result array.

Grid point `t` computes 1536 columns of all rows, from column `1536 * t`. -/

@[expose] public section

set_option maxRecDepth 16384

noncomputable section

open Idealize.ShloMosaic Idealize.ShloMosaic.TcCoe Idealize.SL.Sem
open Idealize.ShloMosaic.Pipeline (Dat)

namespace Cert.PromptIdeal.CondValue

open Cert.PromptIdeal Cert.PromptIdeal.Gen Cert.PromptStages

variable (V : (c : Dev nD) → (b : Ref sig .tc) → Buf (Elt Ideal) ((c : Thread nD τ).loc b))

/-- Every window's block at every grid point. -/
theorem idx_val : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

/-- The column, in the whole array, of column `l` of grid point `t`. -/
def col (t : Fin cfg0.N) (l : Fin 1536) : Fin 6144 := ⟨t.val * 1536 + l.val, by have : t.val < 4 := t.isLt; omega⟩

/-- What a grid point stores is the conditioning where the block lies. -/
theorem point (c : Dev nD) (t : Fin cfg0.N) (y) :
    k0_pay1 (iblk0 V c 0 t) (iblk0 V c 1 t) (iblk0 V c 2 t) y
      = condAll (V c main_v21) (V c main_v22) (V c main_arg4) (((cfg0.win 3).blk t).view.emb y) := by
  idx_vars y
  have e : ((cfg0.win 3).blk t).view.emb (ix2 y0 y1) = ix2 y0 (col t y1) := by
    blk_ext [idx_val t, col]
  refine Eq.trans ?_ (congrArg (condAll (V c main_v21) (V c main_v22) (V c main_arg4)) e).symm
  refine condAll_at _ _ _ _ _ _ (col t) ?_ ?_ ?_ y0 y1
  all_goals intros
  all_goals blk_point [iblk0, idx_val t, col]

/-- The conditioning call's result after the region. -/
theorem final (c : Dev nD) : (dat0 V c).arrAt 3 cfg0.N = condAll (V c main_v21) (V c main_v22) (V c main_arg4) := by
  refine (dat0 V c).arrAt_eq_of_covers 3 _ (by decide +kernel) fun t hf y => ?_
  blk_simp; rw [after0_3]; frame_out
  exact point V c t y

end Cert.PromptIdeal.CondValue

end
-- ==== Proof.PromptInproj.lean ====
module

public import proofs.«01_k».proof.Proof.Gen.PromptIdeal.Frame
public import proofs.«01_k».proof.Proof.PromptStages
public import Idealize.ShloMosaic.Lib.Pipeline.ValueKit
public import Idealize.ShloMosaic.Lib.StableHlo.Run

/-! The input projection's five result arrays.

Grid point `t` works on sequence `t / 4` and on 512 rows of it, from row `512 * (t % 4)`. The blocks of each result
tile its array, and each holds the reference's values, given that the conditioning and the columns of the weight are
where the call reads them. -/

@[expose] public section

set_option maxRecDepth 16384

noncomputable section

open Idealize.ShloMosaic Idealize.ShloMosaic.TcCoe Idealize.SL.Sem
open Idealize.ShloMosaic.Pipeline (Dat)

namespace Cert.PromptIdeal.InprojValue

open Cert.PromptIdeal Cert.PromptIdeal.Gen Cert.PromptStages

variable (V : (c : Dev nD) → (b : Ref sig .tc) → Buf (Elt Ideal) ((c : Thread nD τ).loc b))

/-- Every window's block at every grid point. -/
theorem idx_val : ∀ t : Fin cfg1.N, win1_0.index t = ![t.val / 4, t.val % 4, 0]
    ∧ win1_1.index t = ![t.val / 4, 0, 0]
    ∧ win1_2.index t = ![0, 0]
    ∧ win1_3.index t = ![0, 0]
    ∧ win1_4.index t = ![0, 0]
    ∧ win1_5.index t = ![0, 0]
    ∧ win1_6.index t = ![0, 0]
    ∧ win1_7.index t = ![t.val / 4, t.val % 4, 0]
    ∧ win1_8.index t = ![t.val / 4, t.val % 4, 0]
    ∧ win1_9.index t = ![t.val / 4, t.val % 4, 0]
    ∧ win1_10.index t = ![t.val / 4, 0, 0, t.val % 4]
    ∧ win1_11.index t = ![t.val / 4, 0, 0, t.val % 4] :=
  (by decide +kernel : ∀ t : Fin grid1.N, _)

/-- The sequence of grid point `t`. -/
def seq (t : Fin cfg1.N) : Fin 32 := ⟨t.val / 4, by have : t.val < 128 := t.isLt; omega⟩
/-- The position, in its sequence, of row `r` of grid point `t`. -/
def row (t : Fin cfg1.N) (r : Fin 512) : Fin 2048 := ⟨t.val % 4 * 512 + r.val, by omega⟩

variable (A : FVec Ideal Cert.PromptRefIdeal.S32x6144 .f32) (W : FVec Ideal Cert.PromptRefIdeal.S1x1024x5632 .f32)

/-- The reference's projection, from the arrays the call reads. -/
abbrev columns (c : Dev nD) : FVec Ideal Cert.PromptRefIdeal.S32x2048x5632 .f32 :=
  proj (normed (V c main_arg0) A (V c main_arg5)) W

/-- The call reads the conditioning `A` and the columns of the weight `W`. -/
structure Reads (c : Dev nD) : Prop where
  cond : ∀ (n : Fin 32) (l : Fin 6144), V c main_v25 (ix3 n 0 l) = A (ix2 n l)
  queries : ∀ (k : Fin 1024) (l : Fin 512), V c main_v2 (ix2 k l) = W (ix3 0 k ⟨l.val, by omega⟩)
  recur : ∀ (k : Fin 1024) (l : Fin 2048), V c main_v4 (ix2 k l) = W (ix3 0 k ⟨1536 + l.val, by omega⟩)
  gates : ∀ (k : Fin 1024) (l : Fin 2048), V c main_v6 (ix2 k l) = W (ix3 0 k ⟨3584 + l.val, by omega⟩)
  pairs : ∀ (l : Fin 1024) (k : Fin 1024), V c main_v9 (ix2 l k) = W (ix3 0 k ⟨512 + l.val, by omega⟩)

variable {V A W} {c : Dev nD} (h : Reads V A W c) (t : Fin cfg1.N)
include h

theorem weight3 (k : Fin 1024) (l : Fin 512) : iblk1 V c 3 t (ix2 k l) = W (ix3 0 k ⟨l.val, by omega⟩) := by
  have e : ((cfg1.win 3).blk t).view.emb (ix2 k l) = ix2 k l := by blk_ext [idx_val t]
  exact (congrArg (V c main_v2) e).trans (h.queries k l)

theorem weight4 (k : Fin 1024) (l : Fin 2048) : iblk1 V c 4 t (ix2 k l) = W (ix3 0 k ⟨1536 + l.val, by omega⟩) := by
  have e : ((cfg1.win 4).blk t).view.emb (ix2 k l) = ix2 k l := by blk_ext [idx_val t]
  exact (congrArg (V c main_v4) e).trans (h.recur k l)

theorem weight5 (k : Fin 1024) (l : Fin 2048) : iblk1 V c 5 t (ix2 k l) = W (ix3 0 k ⟨3584 + l.val, by omega⟩) := by
  have e : ((cfg1.win 5).blk t).view.emb (ix2 k l) = ix2 k l := by blk_ext [idx_val t]
  exact (congrArg (V c main_v6) e).trans (h.gates k l)

theorem weight6 (l : Fin 1024) (k : Fin 1024) : iblk1 V c 6 t (ix2 l k) = W (ix3 0 k ⟨512 + l.val, by omega⟩) := by
  have e : ((cfg1.win 6).blk t).view.emb (ix2 l k) = ix2 l k := by blk_ext [idx_val t]
  exact (congrArg (V c main_v9) e).trans (h.pairs l k)

/-- The conditioning of the block's sequence. -/
theorem cond1 (l : Fin 6144) : iblk1 V c 1 t (ix3 0 0 l) = A (ix2 (seq t) l) := by
  have e : ((cfg1.win 1).blk t).view.emb (ix3 0 0 l) = ix3 (seq t) 0 l := by blk_ext [idx_val t, seq]
  exact (congrArg (V c main_v25) e).trans (h.cond (seq t) l)

/-- A grid point's normalised rows are the reference's. -/
theorem hidden_at (r : Fin 512) (l : Fin 1024) :
    k1_pay6 (iblk1 V c 1 t) (iblk1 V c 0 t) (iblk1 V c 2 t) (ix2 r l) = normed (V c main_arg0) A (V c main_arg5) (ix3 (seq t) (row t r) l) := by
  refine normed_at (seq t) (row t) _ _ _ _ _ _ (cond1 h t) ?_ ?_ r l
  all_goals intros
  all_goals blk_point [iblk1, idx_val t, seq, row]

/-- The same rows, as the later results read them. -/
theorem hidden_again (r : Fin 512) (l : Fin 1024) :
    (k1_pay9 (iblk1 V c 0 t) (iblk1 V c 1 t) (iblk1 V c 2 t) (iblk1 V c 3 t) (iblk1 V c 4 t) (iblk1 V c 5 t) (iblk1 V c 6 t)) (ix2 r l)
      = normed (V c main_arg0) A (V c main_arg5) (ix3 (seq t) (row t r) l) := by
  refine Eq.trans ?_ (hidden_at h t r l)
  exact congrFun (congr (congr (congrArg k1_pay6 (View.ld_unit_lit _ _ (by decide))) (View.ld_unit_lit _ _ (by decide))) (View.ld_unit_lit _ _ (by decide))) _

/-- What a grid point stores into result 0 is the reference's values there. -/
theorem point_7 (y) :
    k1_pay7 (iblk1 V c 1 t) (iblk1 V c 0 t) (iblk1 V c 2 t) (iblk1 V c 3 t) y
      = queries (columns V A W c) (((cfg1.win 7).blk t).view.emb y) := by
  idx_vars y
  obtain rfl : y0 = 0 := Subsingleton.elim _ _
  have e : ((cfg1.win 7).blk t).view.emb (ix3 0 y1 y2) = ix3 (seq t) (row t y1) y2 := by
    blk_ext [idx_val t, seq, row]
  refine Eq.trans ?_ (congrArg (queries (columns V A W c)) e).symm
  exact pay7_at (seq t) (row t) _ _ _ _ _ _ (hidden_at h t) (weight3 h t) y1 y2

/-- Result 0 after the run is the reference's. -/
theorem final_7 : (dat1 V c).arrAt 7 cfg1.N = queries (columns V A W c) := by
  refine (dat1 V c).arrAt_eq_of_covers 7 _ (by decide +kernel) fun t hf y => ?_
  blk_simp; rw [after1_7]; frame_out
  exact point_7 h t y

/-- What a grid point stores into result 1 is the reference's values there. -/
theorem point_8 (y) :
    k1_pay1 (k1_pay8 (iblk1 V c 1 t) (iblk1 V c 0 t) (iblk1 V c 2 t) (iblk1 V c 4 t)) y
      = recur (columns V A W c) (((cfg1.win 8).blk t).view.emb y) := by
  idx_vars y
  obtain rfl : y0 = 0 := Subsingleton.elim _ _
  have e : ((cfg1.win 8).blk t).view.emb (ix3 0 y1 y2) = ix3 (seq t) (row t y1) y2 := by
    blk_ext [idx_val t, seq, row]
  refine Eq.trans ?_ (congrArg (recur (columns V A W c)) e).symm
  exact pay8_at (seq t) (row t) _ _ _ _ _ _ (hidden_at h t) (weight4 h t) y1 y2

/-- Result 1 after the run is the reference's. -/
theorem final_8 : (dat1 V c).arrAt 8 cfg1.N = recur (columns V A W c) := by
  refine (dat1 V c).arrAt_eq_of_covers 8 _ (by decide +kernel) fun t hf y => ?_
  blk_simp; rw [after1_8]; frame_out
  exact point_8 h t y

/-- What a grid point stores into result 2 is the reference's values there. -/
theorem point_9 (y) :
    k1_pay2 (k1_pay9 (iblk1 V c 0 t) (iblk1 V c 1 t) (iblk1 V c 2 t) (iblk1 V c 3 t) (iblk1 V c 4 t) (iblk1 V c 5 t) (iblk1 V c 6 t)) (iblk1 V c 5 t) y
      = gates (columns V A W c) (((cfg1.win 9).blk t).view.emb y) := by
  idx_vars y
  obtain rfl : y0 = 0 := Subsingleton.elim _ _
  have e : ((cfg1.win 9).blk t).view.emb (ix3 0 y1 y2) = ix3 (seq t) (row t y1) y2 := by
    blk_ext [idx_val t, seq, row]
  refine Eq.trans ?_ (congrArg (gates (columns V A W c)) e).symm
  exact pay2_at (seq t) (row t) _ _ _ _ (hidden_again h t) (weight5 h t) y1 y2

/-- Result 2 after the run is the reference's. -/
theorem final_9 : (dat1 V c).arrAt 9 cfg1.N = gates (columns V A W c) := by
  refine (dat1 V c).arrAt_eq_of_covers 9 _ (by decide +kernel) fun t hf y => ?_
  blk_simp; rw [after1_9]; frame_out
  exact point_9 h t y

/-- What a grid point stores into result 3 is the reference's values there. -/
theorem point_10 (y) :
    k1_pay4 (k1_pay9 (iblk1 V c 0 t) (iblk1 V c 1 t) (iblk1 V c 2 t) (iblk1 V c 3 t) (iblk1 V c 4 t) (iblk1 V c 5 t) (iblk1 V c 6 t)) (iblk1 V c 6 t) y
      = keys (columns V A W c) (((cfg1.win 10).blk t).view.emb y) := by
  idx_vars y
  obtain rfl : y0 = 0 := Subsingleton.elim _ _
  have e : ((cfg1.win 10).blk t).view.emb (ix4 0 y1 y2 y3) = ix4 (seq t) y1 y2 (row t y3) := by
    blk_ext [idx_val t, seq, row]
  refine Eq.trans ?_ (congrArg (keys (columns V A W c)) e).symm
  exact pay4_at (seq t) (row t) _ _ _ _ (hidden_again h t) (weight6 h t) y1 y2 y3

/-- Result 3 after the run is the reference's. -/
theorem final_10 : (dat1 V c).arrAt 10 cfg1.N = keys (columns V A W c) := by
  refine (dat1 V c).arrAt_eq_of_covers 10 _ (by decide +kernel) fun t hf y => ?_
  blk_simp; rw [after1_10]; frame_out
  exact point_10 h t y

/-- What a grid point stores into result 4 is the reference's values there. -/
theorem point_11 (y) :
    k1_pay5 (k1_pay9 (iblk1 V c 0 t) (iblk1 V c 1 t) (iblk1 V c 2 t) (iblk1 V c 3 t) (iblk1 V c 4 t) (iblk1 V c 5 t) (iblk1 V c 6 t)) (iblk1 V c 6 t) y
      = vals (columns V A W c) (((cfg1.win 11).blk t).view.emb y) := by
  idx_vars y
  obtain rfl : y0 = 0 := Subsingleton.elim _ _
  have e : ((cfg1.win 11).blk t).view.emb (ix4 0 y1 y2 y3) = ix4 (seq t) y1 y2 (row t y3) := by
    blk_ext [idx_val t, seq, row]
  refine Eq.trans ?_ (congrArg (vals (columns V A W c)) e).symm
  exact pay5_at (seq t) (row t) _ _ _ _ (hidden_again h t) (weight6 h t) y1 y2 y3

/-- Result 4 after the run is the reference's. -/
theorem final_11 : (dat1 V c).arrAt 11 cfg1.N = vals (columns V A W c) := by
  refine (dat1 V c).arrAt_eq_of_covers 11 _ (by decide +kernel) fun t hf y => ?_
  blk_simp; rw [after1_11]; frame_out
  exact point_11 h t y

end Cert.PromptIdeal.InprojValue

end
-- ==== Proof.PromptPost.lean ====
module

public import proofs.«01_k».proof.Proof.Gen.PromptIdeal.Frame
public import proofs.«01_k».proof.Proof.PromptStages
public import Idealize.ShloMosaic.Lib.Pipeline.ValueKit
public import Idealize.ShloMosaic.Lib.StableHlo.Run

/-! The merge-and-feed-forward call's result array.

Grid point `t` works on sequence `t / 8` and on 256 rows of it, from row `256 * (t % 8)`. The blocks of the result
tile the array, and each holds the reference's values, given what the call reads of the conditioning, of the
projection's gates and of the weights. -/

@[expose] public section

set_option maxRecDepth 16384

noncomputable section

open Idealize.ShloMosaic Idealize.ShloMosaic.TcCoe Idealize.SL.Sem
open Idealize.ShloMosaic.Pipeline (Dat)

namespace Cert.PromptIdeal.PostValue

open Cert.PromptIdeal Cert.PromptIdeal.Gen Cert.PromptStages

variable (V : (c : Dev nD) → (b : Ref sig .tc) → Buf (Elt Ideal) ((c : Thread nD τ).loc b))

/-- Every window's block at every grid point. -/
theorem idx_val : ∀ t : Fin cfg2.N, win2_0.index t = ![t.val / 8, t.val % 8, 0]
    ∧ win2_1.index t = ![t.val / 8, t.val % 8, 0]
    ∧ win2_2.index t = ![t.val / 8, t.val % 8, 0]
    ∧ win2_3.index t = ![t.val / 8, t.val % 8, 0]
    ∧ win2_4.index t = ![t.val / 8, 0, 0]
    ∧ win2_5.index t = ![0, 0]
    ∧ win2_6.index t = ![0, 0]
    ∧ win2_7.index t = ![0, 0]
    ∧ win2_8.index t = ![0, 0]
    ∧ win2_9.index t = ![0, 0]
    ∧ win2_10.index t = ![0, 0]
    ∧ win2_11.index t = ![0, 0]
    ∧ win2_12.index t = ![t.val / 8, t.val % 8, 0] :=
  (by decide +kernel : ∀ t : Fin grid2.N, _)

/-- The sequence of grid point `t`. -/
def seq (t : Fin cfg2.N) : Fin 32 := ⟨t.val / 8, by have : t.val < 256 := t.isLt; omega⟩
/-- The position, in its sequence, of row `r` of grid point `t`. -/
def row (t : Fin cfg2.N) (r : Fin 256) : Fin 2048 := ⟨t.val % 8 * 256 + r.val, by omega⟩

variable (A : FVec Ideal Cert.PromptRefIdeal.S32x6144 .f32) (P : FVec Ideal Cert.PromptRefIdeal.S32x2048x5632 .f32)
  (WA WH : FVec Ideal Cert.PromptRefIdeal.S1x512x1024 .f32) (WO : FVec Ideal Cert.PromptRefIdeal.S1x1024x1024 .f32)
  (W1 : FVec Ideal Cert.PromptRefIdeal.S1x1024x4096 .f32) (W2 : FVec Ideal Cert.PromptRefIdeal.S1x4096x1024 .f32) (N : FVec Ideal Cert.PromptRefIdeal.S1024 .f32)

/-- The reference's result, from the arrays the call reads. -/
abbrev result (c : Dev nD) : FVec Ideal Cert.PromptRefIdeal.S32x2048x1024 .f32 :=
  rms (fed (mixed (V c main_arg0) (V c main_arg7) (V c main_arg8) P A WA WH WO) A (V c main_arg12) W1 W2) N

/-- The call reads the conditioning `A`, the gates of the projection `P`, and the weights. -/
structure Reads (c : Dev nD) : Prop where
  cond : ∀ (n : Fin 32) (l : Fin 6144), V c main_v25 (ix3 n 0 l) = A (ix2 n l)
  gates : ∀ (n : Fin 32) (s : Fin 2048) (l : Fin 2048), V c main_v26_2 (ix3 n s l) = gates P (ix3 n s l)
  upAttn : ∀ (k : Fin 512) (l : Fin 1024), V c main_v11 (ix2 k l) = WA (ix3 0 k l)
  upHgrn : ∀ (k : Fin 512) (l : Fin 1024), V c main_v13 (ix2 k l) = WH (ix3 0 k l)
  out : ∀ (k : Fin 1024) (l : Fin 1024), V c main_v15 (ix2 k l) = WO (ix3 0 k l)
  ff1 : ∀ (k : Fin 1024) (l : Fin 4096), V c main_v17 (ix2 k l) = W1 (ix3 0 k l)
  ff2 : ∀ (k : Fin 4096) (l : Fin 1024), V c main_v19 (ix2 k l) = W2 (ix3 0 k l)
  norm : ∀ l : Fin 1024, V c main_v20 (ix2 0 l) = N (ix1 l)

variable {V A P WA WH WO W1 W2 N} {c : Dev nD} (h : Reads V A P WA WH WO W1 W2 N c) (t : Fin cfg2.N)
include h

/-- The conditioning of the block's sequence. -/
theorem cond4 (l : Fin 6144) : iblk2 V c 4 t (ix3 0 0 l) = A (ix2 (seq t) l) := by
  have e : ((cfg2.win 4).blk t).view.emb (ix3 0 0 l) = ix3 (seq t) 0 l := by blk_ext [idx_val t, seq]
  exact (congrArg (V c main_v25) e).trans (h.cond (seq t) l)

/-- The gates of the block's rows. -/
theorem gates3 (r : Fin 256) (l : Fin 2048) : iblk2 V c 3 t (ix3 0 r l) = gates P (ix3 (seq t) (row t r) l) := by
  have e : ((cfg2.win 3).blk t).view.emb (ix3 0 r l) = ix3 (seq t) (row t r) l := by blk_ext [idx_val t, seq, row]
  exact (congrArg (V c main_v26_2) e).trans (h.gates (seq t) (row t r) l)

theorem weight5 (k : Fin 512) (l : Fin 1024) : iblk2 V c 5 t (ix2 k l) = WA (ix3 0 k l) := by
  have e : ((cfg2.win 5).blk t).view.emb (ix2 k l) = ix2 k l := by blk_ext [idx_val t]
  exact (congrArg (V c main_v11) e).trans (h.upAttn k l)

theorem weight6 (k : Fin 512) (l : Fin 1024) : iblk2 V c 6 t (ix2 k l) = WH (ix3 0 k l) := by
  have e : ((cfg2.win 6).blk t).view.emb (ix2 k l) = ix2 k l := by blk_ext [idx_val t]
  exact (congrArg (V c main_v13) e).trans (h.upHgrn k l)

theorem weight7 (k : Fin 1024) (l : Fin 1024) : iblk2 V c 7 t (ix2 k l) = WO (ix3 0 k l) := by
  have e : ((cfg2.win 7).blk t).view.emb (ix2 k l) = ix2 k l := by blk_ext [idx_val t]
  exact (congrArg (V c main_v15) e).trans (h.out k l)

theorem weight9 (k : Fin 1024) (l : Fin 4096) : iblk2 V c 9 t (ix2 k l) = W1 (ix3 0 k l) := by
  have e : ((cfg2.win 9).blk t).view.emb (ix2 k l) = ix2 k l := by blk_ext [idx_val t]
  exact (congrArg (V c main_v17) e).trans (h.ff1 k l)

theorem weight10 (k : Fin 4096) (l : Fin 1024) : iblk2 V c 10 t (ix2 k l) = W2 (ix3 0 k l) := by
  have e : ((cfg2.win 10).blk t).view.emb (ix2 k l) = ix2 k l := by blk_ext [idx_val t]
  exact (congrArg (V c main_v19) e).trans (h.ff2 k l)

theorem weight11 (l : Fin 1024) : iblk2 V c 11 t (ix2 0 l) = N (ix1 l) := by
  have e : ((cfg2.win 11).blk t).view.emb (ix2 0 l) = ix2 0 l := by blk_ext [idx_val t]
  exact (congrArg (V c main_v20) e).trans (h.norm l)

/-- A grid point's rows after the mixers are the reference's. -/
theorem mixed_row (r : Fin 256) (l : Fin 1024) :
    k2_pay3 (iblk2 V c 4 t) (iblk2 V c 3 t) (iblk2 V c 1 t) (iblk2 V c 5 t) (iblk2 V c 2 t) (iblk2 V c 6 t) (iblk2 V c 0 t) (iblk2 V c 7 t) (ix2 r l)
      = mixed (V c main_arg0) (V c main_arg7) (V c main_arg8) P A WA WH WO (ix3 (seq t) (row t r) l) := by
  refine mixed_at (seq t) (row t) _ _ _ _ _ _ _ _ _ _ _ _ _ _ _ _ (cond4 h t) (gates3 h t) ?_ (weight5 h t) ?_ (weight6 h t) ?_ (weight7 h t) r l
  all_goals intros
  all_goals blk_point [iblk2, idx_val t, seq, row]

/-- What a grid point stores, in terms of its blocks. -/
abbrev stored (x : (w : Fin cfg2.W) → ((cfg2.win w).xblock (cfg2.grid.coords t)).Idx → Elt Ideal (cfg2.win w).elt) : FVec Ideal S1x256x1024 .f32 :=
  k2_pay1 (k2_pay4 (k2_pay2 (x 4)) (k2_pay3 (x 4) (x 3) (x 1) (x 5) (x 2) (x 6) (x 0) (x 7)) (x 8) (x 9) (x 10))
    (k2_pay5 (k2_pay2 (x 4)) (k2_pay3 (x 4) (x 3) (x 1) (x 5) (x 2) (x 6) (x 0) (x 7)) (x 8) (x 9) (x 10)) (x 11)

/-- What a grid point stores is the reference's result where the block lies. -/
theorem point (y) : stored t (fun w => iblk2 V c w t) y = result V A P WA WH WO W1 W2 N c (((cfg2.win 12).blk t).view.emb y) := by
  idx_vars y
  obtain rfl : y0 = 0 := Subsingleton.elim _ _
  have e : ((cfg2.win 12).blk t).view.emb (ix3 0 y1 y2) = ix3 (seq t) (row t y1) y2 := by
    blk_ext [idx_val t, seq, row]
  refine Eq.trans ?_ (congrArg (result V A P WA WH WO W1 W2 N c) e).symm
  refine rms_at (seq t) (row t) _ _ _ _ _ _ _ _ (fed_at (seq t) (row t) _ _ _ _ _ _ _ _ _ _ ?_
    (mixed_row h t) ?_ (weight9 h t) (weight10 h t)) (weight11 h t) y1 y2
  · intro l
    refine Eq.trans ?_ (cond4 h t l)
    pointwise [k2_pay2]
  · intro l
    blk_point [iblk2, idx_val t, seq, row]

/-- The result array after the region is the reference's. -/
theorem final : (dat2 V c).arrAt 12 cfg2.N = result V A P WA WH WO W1 W2 N c := by
  refine (dat2 V c).arrAt_eq_of_covers 12 _ (by decide +kernel) fun t hf y => ?_
  blk_simp; rw [after2_12]; frame_out
  refine Eq.trans (congrFun ?_ y) (point h t y)
  unfold k2_pay6 k2_pay7
  simp (disch := decide) only [View.ld_unit_lit]

end Cert.PromptIdeal.PostValue

end
-- ==== Proof.PromptValue.lean ====
module

public import proofs.«01_k».proof.Proof.PromptCond
public import proofs.«01_k».proof.Proof.PromptInproj
public import proofs.«01_k».proof.Proof.PromptPost

/-! The prompt's three calls, one after another.

What each call reads is either an argument, a part of one that the host prepares before the first call, or a result of
an earlier call. The results at the end are the reference's stages of the arguments. -/

@[expose] public section

set_option maxRecDepth 16384

noncomputable section

open Idealize.ShloMosaic Idealize.ShloMosaic.TcCoe Idealize.SL.Sem
open Idealize.ShloMosaic.Pipeline (Dat)

namespace Cert.PromptIdeal.Chain

open Cert.PromptIdeal Cert.PromptIdeal.Gen Cert.PromptStages

variable (m : (ℓ : Loc nD τ sig) → Buf (Elt Ideal) ℓ) (ρ : Dev nD → PrngReg) (c : Dev nD)

/-- The reference's conditioning, from the kernel's arguments. -/
abbrev cnd : FVec Ideal Cert.PromptRefIdeal.S32x6144 .f32 :=
  cond (m ((c : Thread nD τ).loc main_arg1)) (m ((c : Thread nD τ).loc main_arg3)) (m ((c : Thread nD τ).loc main_arg4))
/-- The reference's projection, from the kernel's arguments. -/
abbrev prj : FVec Ideal Cert.PromptRefIdeal.S32x2048x5632 .f32 :=
  proj (normed (m ((c : Thread nD τ).loc main_arg0)) (cnd m c) (m ((c : Thread nD τ).loc main_arg5))) (m ((c : Thread nD τ).loc main_arg6))
/-- The reference's first result, from the kernel's arguments. -/
abbrev out : FVec Ideal Cert.PromptRefIdeal.S32x2048x1024 .f32 :=
  rms (fed (mixed (m ((c : Thread nD τ).loc main_arg0)) (m ((c : Thread nD τ).loc main_arg7)) (m ((c : Thread nD τ).loc main_arg8)) (prj m c) (cnd m c)
      (m ((c : Thread nD τ).loc main_arg9)) (m ((c : Thread nD τ).loc main_arg10)) (m ((c : Thread nD τ).loc main_arg11)))
    (cnd m c) (m ((c : Thread nD τ).loc main_arg12)) (m ((c : Thread nD τ).loc main_arg13)) (m ((c : Thread nD τ).loc main_arg14)))
    (m ((c : Thread nD τ).loc main_arg15))

/-- What the second call finds in a buffer that only the host's first stretch wrote. -/
theorem carry3 (r : Ref sig .tc) (h1 : r ∉ hostOps1_W) (h0 : ∀ w : Fin cfg0.W, Pipeline.arrRef spec0 w = r → (cfg0.win w).isOut = false) :
    V3 m ρ c r = V1 m ρ c r :=
  (W3_of m ρ c r h1).trans (W2_of m ρ c r h0)

/-- What the third call finds in such a buffer. -/
theorem carry4 (r : Ref sig .tc) (h1 : r ∉ hostOps1_W) (h0 : ∀ w : Fin cfg0.W, Pipeline.arrRef spec0 w = r → (cfg0.win w).isOut = false)
    (h2 : ∀ w : Fin cfg1.W, Pipeline.arrRef spec1 w = r → (cfg1.win w).isOut = false) : V4 m ρ c r = V1 m ρ c r :=
  (W4_of m ρ c r h2).trans (carry3 m ρ c r h1 h0)

/-- The conditioning, where the second call reads it. -/
theorem cond3 (n : Fin 32) (l : Fin 6144) : V3 m ρ c main_v25 (ix3 n 0 l) = cnd m c (ix2 n l) := by
  have e : V3 m ρ c main_v25 (ix3 n 0 l) = V2 m ρ c main_v23 (ix2 ⟨n.val, by omega⟩ l) := by
    show StableHlo.after hostOps1 (W2 m ρ c) (Proc.devRef .tc main_v25) (ix3 n 0 l) = _
    entry_read
    pointwise
  have e' : V2 m ρ c main_v23 = condAll (V1 m ρ c main_v21) (V1 m ρ c main_v22) (V1 m ρ c main_arg4) :=
    (W2_arr m ρ c 3).trans (CondValue.final (V1 m ρ) c)
  have e4 : V1 m ρ c main_arg4 = m ((c : Thread nD τ).loc main_arg4) := W1_args m ρ c main_arg4 (by decide)
  rw [e, e', e4]
  refine condAll_cond _ _ _ _ _ n ?_ ?_ l
  · intro k
    show StableHlo.after hostOps0 (W0 m ρ c) (Proc.devRef .tc main_v21) (ix2 ⟨n.val, by omega⟩ k) = _
    entry_read
    pointwise
  · intro k l
    show StableHlo.after hostOps0 (W0 m ρ c) (Proc.devRef .tc main_v22) (ix2 k l) = _
    entry_read
    pointwise

/-- What the projection reads. -/
theorem reads3 : InprojValue.Reads (V3 m ρ) (cnd m c) (m ((c : Thread nD τ).loc main_arg6)) c where
  cond := cond3 m ρ c
  queries k l := by
    rw [carry3 m ρ c main_v2 (by decide) (by decide +kernel)]
    show StableHlo.after hostOps0 (W0 m ρ c) (Proc.devRef .tc main_v2) (ix2 k l) = _
    entry_read
    pointwise
  recur k l := by
    rw [carry3 m ρ c main_v4 (by decide) (by decide +kernel)]
    show StableHlo.after hostOps0 (W0 m ρ c) (Proc.devRef .tc main_v4) (ix2 k l) = _
    entry_read
    pointwise
  gates k l := by
    rw [carry3 m ρ c main_v6 (by decide) (by decide +kernel)]
    show StableHlo.after hostOps0 (W0 m ρ c) (Proc.devRef .tc main_v6) (ix2 k l) = _
    entry_read
    pointwise
  pairs l k := by
    rw [carry3 m ρ c main_v9 (by decide) (by decide +kernel)]
    show StableHlo.after hostOps0 (W0 m ρ c) (Proc.devRef .tc main_v9) (ix2 l k) = _
    entry_read
    pointwise

/-- The projection, from what the second call reads. -/
theorem columns_eq : InprojValue.columns (V3 m ρ) (cnd m c) (m ((c : Thread nD τ).loc main_arg6)) c = prj m c := by
  show proj (normed (W3 m ρ c (Proc.devRef .tc main_arg0)) _ (W3 m ρ c (Proc.devRef .tc main_arg5))) _ = _
  rw [W3_args m ρ c main_arg0 (by decide), W3_args m ρ c main_arg5 (by decide)]

/-- What the third call reads. -/
theorem reads4 : PostValue.Reads (V4 m ρ) (cnd m c) (prj m c) (m ((c : Thread nD τ).loc main_arg9)) (m ((c : Thread nD τ).loc main_arg10))
    (m ((c : Thread nD τ).loc main_arg11)) (m ((c : Thread nD τ).loc main_arg13)) (m ((c : Thread nD τ).loc main_arg14))
    (m ((c : Thread nD τ).loc main_arg15)) c where
  cond n l := (congrFun (W4_of m ρ c main_v25 (by decide +kernel)) _).trans (cond3 m ρ c n l)
  gates n s l := congrFun (((W4_arr m ρ c 9).trans (InprojValue.final_9 (reads3 m ρ c))).trans (congrArg gates (columns_eq m ρ c))) (ix3 n s l)
  upAttn k l := by
    rw [carry4 m ρ c main_v11 (by decide) (by decide +kernel) (by decide +kernel)]
    show StableHlo.after hostOps0 (W0 m ρ c) (Proc.devRef .tc main_v11) (ix2 k l) = _
    entry_read
    pointwise
  upHgrn k l := by
    rw [carry4 m ρ c main_v13 (by decide) (by decide +kernel) (by decide +kernel)]
    show StableHlo.after hostOps0 (W0 m ρ c) (Proc.devRef .tc main_v13) (ix2 k l) = _
    entry_read
    pointwise
  out k l := by
    rw [carry4 m ρ c main_v15 (by decide) (by decide +kernel) (by decide +kernel)]
    show StableHlo.after hostOps0 (W0 m ρ c) (Proc.devRef .tc main_v15) (ix2 k l) = _
    entry_read
    pointwise
  ff1 k l := by
    rw [carry4 m ρ c main_v17 (by decide) (by decide +kernel) (by decide +kernel)]
    show StableHlo.after hostOps0 (W0 m ρ c) (Proc.devRef .tc main_v17) (ix2 k l) = _
    entry_read
    pointwise
  ff2 k l := by
    rw [carry4 m ρ c main_v19 (by decide) (by decide +kernel) (by decide +kernel)]
    show StableHlo.after hostOps0 (W0 m ρ c) (Proc.devRef .tc main_v19) (ix2 k l) = _
    entry_read
    pointwise
  norm l := by
    rw [carry4 m ρ c main_v20 (by decide) (by decide +kernel) (by decide +kernel)]
    show StableHlo.after hostOps0 (W0 m ρ c) (Proc.devRef .tc main_v20) (ix2 0 l) = _
    entry_read
    pointwise

/-- The first result at the end. -/
theorem end_out : W5 m ρ c (Proc.devRef .tc main_v27) = out m c := by
  refine ((W5_arr m ρ c 12).trans (PostValue.final (reads4 m ρ c))).trans ?_
  show rms (fed (mixed (W4 m ρ c (Proc.devRef .tc main_arg0)) (W4 m ρ c (Proc.devRef .tc main_arg7)) (W4 m ρ c (Proc.devRef .tc main_arg8)) _ _ _ _ _)
    _ (W4 m ρ c (Proc.devRef .tc main_arg12)) _ _) _ = _
  rw [W4_args m ρ c main_arg0 (by decide), W4_args m ρ c main_arg7 (by decide), W4_args m ρ c main_arg8 (by decide), W4_args m ρ c main_arg12 (by decide)]

/-- The queries at the end. -/
theorem end_queries : W5 m ρ c (Proc.devRef .tc main_v26_0) = queries (prj m c) :=
  ((W5_of m ρ c main_v26_0 (by decide +kernel)).trans ((W4_arr m ρ c 7).trans (InprojValue.final_7 (reads3 m ρ c)))).trans
    (congrArg queries (columns_eq m ρ c))

/-- The recurrence's inputs at the end. -/
theorem end_recur : W5 m ρ c (Proc.devRef .tc main_v26_1) = recur (prj m c) :=
  ((W5_of m ρ c main_v26_1 (by decide +kernel)).trans ((W4_arr m ρ c 8).trans (InprojValue.final_8 (reads3 m ρ c)))).trans
    (congrArg recur (columns_eq m ρ c))

/-- The keys at the end. -/
theorem end_keys : W5 m ρ c (Proc.devRef .tc main_v26_3) = keys (prj m c) :=
  ((W5_of m ρ c main_v26_3 (by decide +kernel)).trans ((W4_arr m ρ c 10).trans (InprojValue.final_10 (reads3 m ρ c)))).trans
    (congrArg keys (columns_eq m ρ c))

/-- The values at the end. -/
theorem end_vals : W5 m ρ c (Proc.devRef .tc main_v26_4) = vals (prj m c) :=
  ((W5_of m ρ c main_v26_4 (by decide +kernel)).trans ((W4_arr m ρ c 11).trans (InprojValue.final_11 (reads3 m ρ c)))).trans
    (congrArg vals (columns_eq m ρ c))

end Cert.PromptIdeal.Chain

end
-- ==== Proof.PromptRun.lean ====
module

public import proofs.«01_k».proof.Proof.PromptValue

/-! The run of the prompt's program: at the end every buffer holds what the last call leaves in it. The launch is set up
as in the frame's. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.PromptIdeal.Chain

open Cert.PromptIdeal Cert.PromptIdeal.Gen

variable (m : (ℓ : Loc nD τ sig) → Buf (Elt Ideal) ℓ) (ρ : Dev nD → PrngReg)

/-- The resources of the program's threads. -/
abbrev Res := MT nD τ sig Unit (Elt Ideal) ℕ (UR sig nD τ) ℕ

set_option backward.isDefEq.respectTransparency.types false in
/-- Every buffer at the end holds what the last boundary says. -/
theorem run_all : θ_run defs (onTc (τ := τ) (main (F := Ideal))) ⟨m, fun _ => 0, ρ⟩ (fun r => ∀ c : Dev nD, ∀ b ∈ Pipeline.ucRefs τ sig,
    r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-- The results at the end. -/
theorem run : θ_run defs (onTc (τ := τ) (main (F := Ideal))) ⟨m, fun _ => 0, ρ⟩ (fun r => ∀ c : Dev nD,
    r.2.mem ((c.tc : Thread nD τ).loc main_v27) = out m c
    ∧ r.2.mem ((c.tc : Thread nD τ).loc main_v26_0) = PromptStages.queries (prj m c)
    ∧ r.2.mem ((c.tc : Thread nD τ).loc main_v26_1) = PromptStages.recur (prj m c)
    ∧ r.2.mem ((c.tc : Thread nD τ).loc main_v26_3) = PromptStages.keys (prj m c)
    ∧ r.2.mem ((c.tc : Thread nD τ).loc main_v26_4) = PromptStages.vals (prj m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)) :=
  (θ_run defs _ _).mono (fun r h c => ⟨(h c _ (mem_uc main_v27 (by decide))).trans (end_out m ρ c),
    (h c _ (mem_uc main_v26_0 (by decide))).trans (end_queries m ρ c),
    (h c _ (mem_uc main_v26_1 (by decide))).trans (end_recur m ρ c),
    (h c _ (mem_uc main_v26_3 (by decide))).trans (end_keys m ρ c),
    (h c _ (mem_uc main_v26_4 (by decide))).trans (end_vals m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c),
    (h c _ (mem_uc main_arg13 (by decide))).trans (W5_main_arg13 m ρ c),
    (h c _ (mem_uc main_arg14 (by decide))).trans (W5_main_arg14 m ρ c),
    (h c _ (mem_uc main_arg15 (by decide))).trans (W5_main_arg15 m ρ c)⟩) (run_all m ρ)

end Cert.PromptIdeal.Chain

end
-- ==== Proof.PromptClaim.lean ====
module

public import proofs.«01_k».proof.Defs
public import proofs.«01_k».proof.Proof.Gen.PromptIdeal
public import proofs.«01_k».proof.Proof.Gen.PromptRefIdeal
public import proofs.«01_k».proof.Proof.PromptRun
public import Idealize.ShloMosaic.Lib.Claim

/-! The prompt's three calls compute what their reference computes, on any arguments. -/

@[expose] public section

set_option maxRecDepth 16384

noncomputable section

open Idealize.ShloMosaic Idealize.ShloMosaic.TcCoe Idealize.SL.Sem

namespace Cert.Proof

variable {m : (ℓ : Loc PromptIdeal.nD PromptIdeal.τ PromptIdeal.sig) → Buf (Elt Ideal) ℓ}
  {m' : (ℓ : Loc PromptRefIdeal.nD PromptRefIdeal.τ PromptRefIdeal.sig) → Buf (Elt Ideal) ℓ} {c : Dev PromptIdeal.nD}

/-- The arguments are the same in both memories. -/
abbrev Same (m : (ℓ : Loc PromptIdeal.nD PromptIdeal.τ PromptIdeal.sig) → Buf (Elt Ideal) ℓ)
    (m' : (ℓ : Loc PromptRefIdeal.nD PromptRefIdeal.τ PromptRefIdeal.sig) → Buf (Elt Ideal) ℓ) (c : Dev PromptIdeal.nD) : Prop :=
  m' ((c.tc : Thread PromptRefIdeal.nD PromptRefIdeal.τ).loc PromptRefIdeal.main_arg0) = m ((c.tc : Thread PromptIdeal.nD PromptIdeal.τ).loc PromptIdeal.main_arg0) ∧
  m' ((c.tc : Thread PromptRefIdeal.nD PromptRefIdeal.τ).loc PromptRefIdeal.main_arg1) = m ((c.tc : Thread PromptIdeal.nD PromptIdeal.τ).loc PromptIdeal.main_arg1) ∧
  m' ((c.tc : Thread PromptRefIdeal.nD PromptRefIdeal.τ).loc PromptRefIdeal.main_arg2) = m ((c.tc : Thread PromptIdeal.nD PromptIdeal.τ).loc PromptIdeal.main_arg2) ∧
  m' ((c.tc : Thread PromptRefIdeal.nD PromptRefIdeal.τ).loc PromptRefIdeal.main_arg3) = m ((c.tc : Thread PromptIdeal.nD PromptIdeal.τ).loc PromptIdeal.main_arg3) ∧
  m' ((c.tc : Thread PromptRefIdeal.nD PromptRefIdeal.τ).loc PromptRefIdeal.main_arg4) = m ((c.tc : Thread PromptIdeal.nD PromptIdeal.τ).loc PromptIdeal.main_arg4) ∧
  m' ((c.tc : Thread PromptRefIdeal.nD PromptRefIdeal.τ).loc PromptRefIdeal.main_arg5) = m ((c.tc : Thread PromptIdeal.nD PromptIdeal.τ).loc PromptIdeal.main_arg5) ∧
  m' ((c.tc : Thread PromptRefIdeal.nD PromptRefIdeal.τ).loc PromptRefIdeal.main_arg6) = m ((c.tc : Thread PromptIdeal.nD PromptIdeal.τ).loc PromptIdeal.main_arg6) ∧
  m' ((c.tc : Thread PromptRefIdeal.nD PromptRefIdeal.τ).loc PromptRefIdeal.main_arg7) = m ((c.tc : Thread PromptIdeal.nD PromptIdeal.τ).loc PromptIdeal.main_arg7) ∧
  m' ((c.tc : Thread PromptRefIdeal.nD PromptRefIdeal.τ).loc PromptRefIdeal.main_arg8) = m ((c.tc : Thread PromptIdeal.nD PromptIdeal.τ).loc PromptIdeal.main_arg8) ∧
  m' ((c.tc : Thread PromptRefIdeal.nD PromptRefIdeal.τ).loc PromptRefIdeal.main_arg9) = m ((c.tc : Thread PromptIdeal.nD PromptIdeal.τ).loc PromptIdeal.main_arg9) ∧
  m' ((c.tc : Thread PromptRefIdeal.nD PromptRefIdeal.τ).loc PromptRefIdeal.main_arg10) = m ((c.tc : Thread PromptIdeal.nD PromptIdeal.τ).loc PromptIdeal.main_arg10) ∧
  m' ((c.tc : Thread PromptRefIdeal.nD PromptRefIdeal.τ).loc PromptRefIdeal.main_arg11) = m ((c.tc : Thread PromptIdeal.nD PromptIdeal.τ).loc PromptIdeal.main_arg11) ∧
  m' ((c.tc : Thread PromptRefIdeal.nD PromptRefIdeal.τ).loc PromptRefIdeal.main_arg12) = m ((c.tc : Thread PromptIdeal.nD PromptIdeal.τ).loc PromptIdeal.main_arg12) ∧
  m' ((c.tc : Thread PromptRefIdeal.nD PromptRefIdeal.τ).loc PromptRefIdeal.main_arg13) = m ((c.tc : Thread PromptIdeal.nD PromptIdeal.τ).loc PromptIdeal.main_arg13) ∧
  m' ((c.tc : Thread PromptRefIdeal.nD PromptRefIdeal.τ).loc PromptRefIdeal.main_arg14) = m ((c.tc : Thread PromptIdeal.nD PromptIdeal.τ).loc PromptIdeal.main_arg14) ∧
  m' ((c.tc : Thread PromptRefIdeal.nD PromptRefIdeal.τ).loc PromptRefIdeal.main_arg15) = m ((c.tc : Thread PromptIdeal.nD PromptIdeal.τ).loc PromptIdeal.main_arg15)

/-- The reference's projection, from equal arguments. -/
theorem proj_agree (h : Same m m' c) : PromptRefIdeal.Value.res_main_v36 (F := Ideal) (StableHlo.launchContents m' c) = PromptIdeal.Chain.prj m c := by
  obtain ⟨h0, h1, h2, h3, h4, h5, h6, -⟩ := h
  refine (PromptStages.proj_eq _).trans ?_
  show PromptStages.proj (PromptStages.normed (m' ((c.tc : Thread PromptRefIdeal.nD PromptRefIdeal.τ).loc PromptRefIdeal.main_arg0))
    (PromptStages.cond (m' ((c.tc : Thread PromptRefIdeal.nD PromptRefIdeal.τ).loc PromptRefIdeal.main_arg1))
      (m' ((c.tc : Thread PromptRefIdeal.nD PromptRefIdeal.τ).loc PromptRefIdeal.main_arg3))
      (m' ((c.tc : Thread PromptRefIdeal.nD PromptRefIdeal.τ).loc PromptRefIdeal.main_arg4)))
    (m' ((c.tc : Thread PromptRefIdeal.nD PromptRefIdeal.τ).loc PromptRefIdeal.main_arg5)))
    (m' ((c.tc : Thread PromptRefIdeal.nD PromptRefIdeal.τ).loc PromptRefIdeal.main_arg6)) = _
  rw [h0, h1, h3, h4, h5, h6]

/-- The reference's last residual stream normalised, from equal arguments. -/
theorem out_agree (h : Same m m' c) : PromptStages.rms (PromptRefIdeal.Value.res_main_v102 (F := Ideal) (StableHlo.launchContents m' c))
    (m' ((c.tc : Thread PromptRefIdeal.nD PromptRefIdeal.τ).loc PromptRefIdeal.main_arg15)) = PromptIdeal.Chain.out m c := by
  have hp := proj_agree h
  obtain ⟨h0, h1, h2, h3, h4, h5, h6, h7, h8, h9, h10, h11, h12, h13, h14, h15⟩ := h
  rw [PromptStages.proj_eq] at hp
  rw [PromptStages.fed_eq, hp]
  show PromptStages.rms (PromptStages.fed (PromptStages.mixed (m' ((c.tc : Thread PromptRefIdeal.nD PromptRefIdeal.τ).loc PromptRefIdeal.main_arg0))
    (m' ((c.tc : Thread PromptRefIdeal.nD PromptRefIdeal.τ).loc PromptRefIdeal.main_arg7)) (m' ((c.tc : Thread PromptRefIdeal.nD PromptRefIdeal.τ).loc PromptRefIdeal.main_arg8)) _
    (PromptStages.cond (m' ((c.tc : Thread PromptRefIdeal.nD PromptRefIdeal.τ).loc PromptRefIdeal.main_arg1))
      (m' ((c.tc : Thread PromptRefIdeal.nD PromptRefIdeal.τ).loc PromptRefIdeal.main_arg3))
      (m' ((c.tc : Thread PromptRefIdeal.nD PromptRefIdeal.τ).loc PromptRefIdeal.main_arg4)))
    (m' ((c.tc : Thread PromptRefIdeal.nD PromptRefIdeal.τ).loc PromptRefIdeal.main_arg9)) (m' ((c.tc : Thread PromptRefIdeal.nD PromptRefIdeal.τ).loc PromptRefIdeal.main_arg10))
    (m' ((c.tc : Thread PromptRefIdeal.nD PromptRefIdeal.τ).loc PromptRefIdeal.main_arg11)))
    (PromptStages.cond (m' ((c.tc : Thread PromptRefIdeal.nD PromptRefIdeal.τ).loc PromptRefIdeal.main_arg1))
      (m' ((c.tc : Thread PromptRefIdeal.nD PromptRefIdeal.τ).loc PromptRefIdeal.main_arg3))
      (m' ((c.tc : Thread PromptRefIdeal.nD PromptRefIdeal.τ).loc PromptRefIdeal.main_arg4)))
    (m' ((c.tc : Thread PromptRefIdeal.nD PromptRefIdeal.τ).loc PromptRefIdeal.main_arg12)) (m' ((c.tc : Thread PromptRefIdeal.nD PromptRefIdeal.τ).loc PromptRefIdeal.main_arg13))
    (m' ((c.tc : Thread PromptRefIdeal.nD PromptRefIdeal.τ).loc PromptRefIdeal.main_arg14)))
    (m' ((c.tc : Thread PromptRefIdeal.nD PromptRefIdeal.τ).loc PromptRefIdeal.main_arg15)) = _
  rw [h0, h1, h3, h4, h7, h8, h9, h10, h11, h12, h13, h14, h15]

set_option maxHeartbeats 2000000 in
/-- Equal arguments, equal results. -/
theorem prompt_algebraic : Cert.algebraic_PromptIdeal_PromptRefIdeal := by
  pair_intro
  · run_from Cert.PromptIdeal.Chain.run m g
  · run_from Cert.PromptRefIdeal.Value.run m' g'
    · refine Eq.trans ?_ (out_agree (hagree c))
      rw [(hagree c).2.2.2.2.2.2.2.2.2.2.2.2.2.2.2]
      rfl
    · exact congrArg PromptStages.queries (proj_agree (hagree c))
    · exact congrArg PromptStages.recur (proj_agree (hagree c))
    · exact congrArg PromptStages.keys (proj_agree (hagree c))
    · exact congrArg PromptStages.vals (proj_agree (hagree c))

end Cert.Proof

end
-- ==== Proof.StepStages.lean ====
module

public import proofs.«01_k».proof.Proof.Gen.StepIdeal.Skeleton
public import proofs.«01_k».proof.Proof.Gen.StepRefIdeal.Run
public import Idealize.ShloMosaic.Lib.Pointwise

/-! One step of the samples' recurrence, stage by stage.

The kernel's body does the same for every sample of a block and every head, in slices at different offsets. It is stated
here once, the offsets as parameters, and compared with the reference at one sample and head. -/

@[expose] public section

set_option maxRecDepth 16384

noncomputable section

open Idealize.ShloMosaic Idealize.ShloMosaic.TcCoe Idealize.SL.Sem

namespace Cert.StepStages

section Reference
open Cert.StepRefIdeal Cert.StepRefIdeal.Gen

/-- The lower bound of the forget gate: the first row of the softmax over the layers' logits, by heads. -/
def low (L : FVec Ideal S2x512 .f32) : FVec Ideal S4x128 .f32 :=
  let E : FVec Ideal S2x512 .f32 := Host.exp (subf L (broadcastInDim S2x512 ![0, 1] bcast_S1x512_S2x512_0_1 (broadcastInDim S1x512 ![1] bcast_S512_S1x512_1
    (maximumf (broadcastInDim S512 ![] bcast_S_S512 (constant S_ .f32 0xFF800000#32))
      (Host.reduce FloatOps.maximumf L (constant S_ .f32 0xFF800000#32) reducesTo_S2x512_S512_d0 h_S_)))))
  shapeCast _ (shapeCast _ (extractStridedSlice S1x512 ![0, 0] (Host.divf E (broadcastInDim S2x512 ![0, 1] bcast_S1x512_S2x512_0_1
    (broadcastInDim S1x512 ![1] bcast_S512_S1x512_1 (Host.reduceAdd E (constant S_ .f32 0x00000000#32) reducesTo_S2x512_S512_d0 h_S_))))
    slices_S2x512_S1x512_0_0) shapeCasts_S1x512_S512) shapeCasts_S512_S4x128

/-- The features turned back: samples, heads, features. -/
def byHead (X : FVec Ideal S1x512x128 .f32) : FVec Ideal S128x4x128 .f32 :=
  shapeCast _ (transpose S128x512 [1, 0] (shapeCast _ X shapeCasts_S1x512x128_S512x128) transposes_S512x128_S128x512_1_0) shapeCasts_S128x512_S128x4x128

/-- An array of ones. -/
abbrev ones : FVec Ideal S128x4x128 .f32 := broadcastInDim S128x4x128 ![] bcast_S_S128x4x128 (constant S_ .f32 0x3F800000#32)

/-- The logistic function of an array, as the reference spells it. -/
def gate (x : FVec Ideal S128x4x128 .f32) : FVec Ideal S128x4x128 .f32 := Host.divf ones (addf ones (Host.exp (Host.negf x)))

/-- The forget gate, between its lower bound and one. -/
def keep (f : FVec Ideal S128x4x128 .f32) (L : FVec Ideal S2x512 .f32) : FVec Ideal S128x4x128 .f32 :=
  addf (broadcastInDim S128x4x128 ![0, 1, 2] bcast_S1x4x128_S128x4x128_0_1_2 (broadcastInDim S1x4x128 ![1, 2] bcast_S4x128_S1x4x128_1_2 (low L)))
    (mulf (broadcastInDim S128x4x128 ![0, 1, 2] bcast_S1x4x128_S128x4x128_0_1_2 (broadcastInDim S1x4x128 ![1, 2] bcast_S4x128_S1x4x128_1_2
      (subf (broadcastInDim S4x128 ![] bcast_S_S4x128 (constant S_ .f32 0x3F800000#32)) (low L)))) (gate f))

/-- The forget gate, from the turned features. -/
def forget (F : FVec Ideal S1x512x128 .f32) (L : FVec Ideal S2x512 .f32) : FVec Ideal S128x4x128 .f32 := keep (byHead F) L

/-- The new state: the old one where the gate keeps it, the new value where it does not. -/
def update (K v : FVec Ideal S128x4x128 .f32) (St : FVec Ideal S1x128x4x128x128 .f32) : FVec Ideal S128x4x128x128 .f32 :=
  addf
    (mulf (broadcastInDim S128x4x128x128 ![0, 1, 2, 3] bcast_S128x4x128x1_S128x4x128x128_0_1_2_3
        (broadcastInDim S128x4x128x1 ![0, 1, 2] bcast_S128x4x128_S128x4x128x1_0_1_2 K))
      (shapeCast _ St shapeCasts_S1x128x4x128x128_S128x4x128x128))
    (mulf (broadcastInDim S128x4x128x128 ![0, 1, 2, 3] bcast_S128x4x128x1_S128x4x128x128_0_1_2_3
        (broadcastInDim S128x4x128x1 ![0, 1, 2] bcast_S128x4x128_S128x4x128x1_0_1_2 (subf ones K)))
      (broadcastInDim S128x4x128x128 ![0, 1, 2, 3] bcast_S128x4x1x128_S128x4x128x128_0_1_2_3
        (broadcastInDim S128x4x1x128 ![0, 1, 3] bcast_S128x4x128_S128x4x1x128_0_1_3 v)))

/-- The values, by heads. -/
def values (H : FVec Ideal S1x128x2048 .f32) : FVec Ideal S128x4x128 .f32 :=
  shapeCast _ (shapeCast _ (extractStridedSlice S1x128x512 ![0, 0, 1024] H slices_S1x128x2048_S1x128x512_0_0_1024)
    shapeCasts_S1x128x512_S128x512) shapeCasts_S128x512_S128x4x128

/-- The new state, from the turned features. -/
def state (F : FVec Ideal S1x512x128 .f32) (H : FVec Ideal S1x128x2048 .f32) (L : FVec Ideal S2x512 .f32)
    (St : FVec Ideal S1x128x4x128x128 .f32) : FVec Ideal S128x4x128x128 .f32 := update (forget F L) (values H) St

/-- What a state gives for its queries, summed over the features. -/
def readOut (q : FVec Ideal S128x4x128 .f32) (N : FVec Ideal S128x4x128x128 .f32) : FVec Ideal S128x4x128 .f32 :=
  Host.dotGeneral dot_S128x4x128_S128x4x128x128_S128x4x128_2_2_n_3_01_01 none (mulf q (gate q)) N

/-- What a state gives for the turned queries. -/
def reads (Q : FVec Ideal S1x512x128 .f32) (N : FVec Ideal S128x4x128x128 .f32) : FVec Ideal S128x4x128 .f32 := readOut (byHead Q) N

/-- The weighted root-mean-square normalisation over a head, then the output gate. -/
def normGate (O : FVec Ideal S128x4x128 .f32) (og : FVec Ideal S128x512 .f32) (G : FVec Ideal S1x128 .f32) : FVec Ideal S128x512 .f32 :=
  mulf
    (shapeCast _ (mulf (mulf O (broadcastInDim S128x4x128 ![0, 1, 2] bcast_S128x4x1_S128x4x128_0_1_2 (Host.rsqrt
      (addf (Host.divf (broadcastInDim S128x4x1 ![0, 1] bcast_S128x4_S128x4x1_0_1
          (Host.reduceAdd (mulf O O) (constant S_ .f32 0x00000000#32) reducesTo_S128x4x128_S128x4_d2 h_S_))
          (broadcastInDim S128x4x1 ![] bcast_S_S128x4x1 (constant S_ .f32 0x43000000#32)))
        (broadcastInDim S128x4x1 ![] bcast_S_S128x4x1 (constant S_ .f32 0x358637BD#32))))))
      (broadcastInDim S128x4x128 ![0, 1, 2] bcast_S1x1x128_S128x4x128_0_1_2 (broadcastInDim S1x1x128 ![2] bcast_S128_S1x1x128_2
        (shapeCast _ G shapeCasts_S1x128_S128)))) shapeCasts_S128x4x128_S128x512)
    (mulf og (Host.divf (broadcastInDim S128x512 ![] bcast_S_S128x512 (constant S_ .f32 0x3F800000#32))
      (addf (broadcastInDim S128x512 ![] bcast_S_S128x512 (constant S_ .f32 0x3F800000#32)) (Host.exp (Host.negf og)))))

/-- The output gate's input. -/
def outGate (H : FVec Ideal S1x128x2048 .f32) : FVec Ideal S128x512 .f32 :=
  shapeCast _ (extractStridedSlice S1x128x512 ![0, 0, 1536] H slices_S1x128x2048_S1x128x512_0_0_1536) shapeCasts_S1x128x512_S128x512

/-- The output, one row for each sample. -/
def gated (O : FVec Ideal S128x4x128 .f32) (H : FVec Ideal S1x128x2048 .f32) (G : FVec Ideal S1x128 .f32) : FVec Ideal S128x1x512 .f32 :=
  broadcastInDim S128x1x512 ![0, 2] bcast_S128x512_S128x1x512_0_2 (normGate O (outGate H) G)

section Composed
variable (m : (ℓ : Loc nD τ sig) → Buf (Elt Ideal) ℓ) (c : Dev nD)

/-- The reference's state is its stages composed. -/
theorem state_eq : Value.res_main_v51 m c
    = state (m ((c.tc : Thread nD τ).loc main_arg1)) (m ((c.tc : Thread nD τ).loc main_arg2)) (m ((c.tc : Thread nD τ).loc main_arg3))
        (m ((c.tc : Thread nD τ).loc main_arg5)) := rfl

/-- The reference's output is its stages composed. -/
theorem gated_eq : Value.res_main_v70 m c
    = gated (reads (m ((c.tc : Thread nD τ).loc main_arg0)) (state (m ((c.tc : Thread nD τ).loc main_arg1)) (m ((c.tc : Thread nD τ).loc main_arg2))
        (m ((c.tc : Thread nD τ).loc main_arg3)) (m ((c.tc : Thread nD τ).loc main_arg5)))) (m ((c.tc : Thread nD τ).loc main_arg2))
        (m ((c.tc : Thread nD τ).loc main_arg4)) := rfl

end Composed

end Reference

section Kernel
open Cert.StepIdeal Cert.StepIdeal.Gen

/-- The features of the sample in lane `n`. -/
def lane (n : BitVec 32) (x : Vec Ideal S1x1024x128 .f32) : FVec Ideal S1024x1 .f32 :=
  shapeCast S1024x1 (multiReduction .add [1] S1024
    (select (cmpi .eq (iota .tc S1024x128 32 [1] iota_S1024x128_d1_w32) (broadcast S1024x128 n))
      (shapeCast S1024x128 x shapeCasts_S1x1024x128_S1024x128 : FVec Ideal S1024x128 .f32) (broadcast S1024x128 (Scalar.ofBits .f32 0x00000000#32)))
    0x00000000#32 reduces_S1024x128_S1024 (.inl rfl) rfl) shapeCasts_S1024_S1024x1

/-- Feature `k` of head `a`. -/
def feature (a : Fin 4) (k : Fin 128) : Fin 512 := ⟨a.val * 128 + k.val, by omega⟩
/-- Where the queries' feature `r` is among the features side by side. -/
def queryRow (r : Fin 512) : Fin 1024 := ⟨r.val, by omega⟩
/-- Where the forget gates' feature `r` is. -/
def forgetRow (r : Fin 512) : Fin 1024 := ⟨512 + r.val, by omega⟩

theorem slices_query (h : ℕ) (hh : h < 4) : S1024x1.Slices ![h * 128, 0] S128x1 := by interval_cases h <;> decide
theorem slices_low (h : ℕ) (hh : h < 4) : S512x1.Slices ![h * 128, 0] S128x1 := by interval_cases h <;> decide
theorem slices_forget (h : ℕ) (hh : h < 4) : S1024x1.Slices ![512 + h * 128, 0] S128x1 := by interval_cases h <;> decide
theorem slices_value (h : ℕ) (hh : h < 4) : S1x2048.Slices ![0, 1024 + h * 128] S1x128 := by interval_cases h <;> decide
theorem slices_gate (h : ℕ) (hh : h < 4) : S1x2048.Slices ![0, 1536 + h * 128] S1x128 := by interval_cases h <;> decide

variable (c : FVec Ideal S1024x1 .f32) (b : FVec Ideal S512x1 .f32) (w : FVec Ideal S1x2048 .f32) (st : Vec Ideal S1x1x128x128 .f32)
  (g : Vec Ideal S1x128 .f32) (h : ℕ) (hh : h < 4)

/-- A head's queries. -/
def queryOf : FVec Ideal S128x1 .f32 :=
  mulf (extractStridedSlice S128x1 ![h * 128, 0] c (slices_query h hh)) (logistic (extractStridedSlice S128x1 ![h * 128, 0] c (slices_query h hh)))

/-- A head's forget gate. -/
def forgetOf : FVec Ideal S128x1 .f32 :=
  addf (extractStridedSlice S128x1 ![h * 128, 0] b (slices_low h hh))
    (mulf (subf (broadcast S128x1 (Scalar.ofBits .f32 0x3F800000#32)) (extractStridedSlice S128x1 ![h * 128, 0] b (slices_low h hh)))
      (logistic (extractStridedSlice S128x1 ![512 + h * 128, 0] c (slices_forget h hh))))

/-- A head's new state. -/
def stateOf : FVec Ideal S128x128 .f32 :=
  addf (mulf (broadcastTo S128x128 (forgetOf c b h hh) broadcasts_S128x1_S128x128) (shapeCast S128x128 st shapeCasts_S1x1x128x128_S128x128))
    (mulf (broadcastTo S128x128 (subf (broadcast S128x1 (Scalar.ofBits .f32 0x3F800000#32)) (forgetOf c b h hh)) broadcasts_S128x1_S128x128)
      (broadcastTo S128x128 (extractStridedSlice S1x128 ![0, 1024 + h * 128] w (slices_value h hh)) broadcasts_S1x128_S128x128))

/-- What a head's new state gives for its queries. -/
def readsOf : FVec Ideal S1x128 .f32 :=
  shapeCast S1x128 (multiReduction .add [0] S128 (mulf (broadcastTo S128x128 (queryOf c h hh) broadcasts_S128x1_S128x128) (stateOf c b w st h hh))
    0x00000000#32 reduces_S128x128_S128 (.inl rfl) rfl) shapeCasts_S128_S1x128

/-- A head's output, from what its state gives. -/
def gatedOf (o : FVec Ideal S1x128 .f32) : FVec Ideal S1x128 .f32 :=
  mulf (mulf (mulf o (broadcastTo S1x128 (rsqrt (addf (divf
      (shapeCast S1x1 (multiReduction .add [1] S1 (mulf o o) 0x00000000#32 reduces_S1x128_S1 (.inl rfl) rfl) shapeCasts_S1_S1x1)
      (broadcast S1x1 (Scalar.ofBits .f32 0x43000000#32))) (broadcast S1x1 (Scalar.ofBits .f32 0x358637BD#32)))) broadcasts_S1x1_S1x128)) g)
    (mulf (extractStridedSlice S1x128 ![0, 1536 + h * 128] w (slices_gate h hh))
      (logistic (extractStridedSlice S1x128 ![0, 1536 + h * 128] w (slices_gate h hh))))

/-- The new state as the body stores it. -/
def statePiece : FVec Ideal S1x1x128x128 .f32 := shapeCast S1x1x128x128 (stateOf c b w st h hh) shapeCasts_S128x128_S1x1x128x128

/-- The output as the body stores it. -/
def outPiece : FVec Ideal S1x1x128 .f32 := shapeCast S1x1x128 (gatedOf w g h hh (readsOf c b w st h hh)) shapeCasts_S1x128_S1x1x128

/-- The lane picked out is the sample's. -/
theorem lane_at (n : BitVec 32) (x : Vec Ideal S1x1024x128 .f32) (s : Fin 128) (hn : n = BitVec.ofNat 32 s.val) (r : Fin 1024) :
    lane n x (ix2 r 0) = x (ix3 0 r s) := by
  subst hn
  pointwise [lane]
  rw [Finset.sum_eq_single s (fun l _ hl => ?_) (by simp)]
  · simp [Scalar.select, IntOp.cmpi]
  · have e : (BitVec.ofNat 32 l.val == BitVec.ofNat 32 s.val) = false := by
      refine beq_eq_false_iff_ne.2 fun q => hl (Fin.ext ?_)
      have q := congrArg BitVec.toNat q
      simp only [BitVec.toNat_ofNat] at q
      omega
    simp [Scalar.select, IntOp.cmpi, e]

variable (Q F : FVec Ideal Cert.StepRefIdeal.S1x512x128 .f32) (H : FVec Ideal Cert.StepRefIdeal.S1x128x2048 .f32)
  (L : FVec Ideal Cert.StepRefIdeal.S2x512 .f32) (St : FVec Ideal Cert.StepRefIdeal.S1x128x4x128x128 .f32) (G : FVec Ideal Cert.StepRefIdeal.S1x128 .f32)
  (s : Fin 128)

theorem low_at (v : Vec Ideal S512x2 .f32) (hv : ∀ (r : Fin 512) (j : Fin 2), v (ix2 r j) = L (ix2 j r)) (a : Fin 4) (k : Fin 128) :
    k0_pay3 v (ix2 (feature a k) 0) = low L (ix2 a k) := by
  pointwise [k0_pay3, low, hv, feature]
  simp only [max_eq_right ((Finset.le_fold_max (Ideal.ofBits FTy.f32 4286578688#32)).2 (.inl le_rfl))]

variable (hb : ∀ (a : Fin 4) (k : Fin 128), b (ix2 (feature a k) 0) = low L (ix2 a k))
  (hf : ∀ r : Fin 512, c (ix2 (forgetRow r) 0) = F (ix3 0 r s))
  (hq : ∀ r : Fin 512, c (ix2 (queryRow r) 0) = Q (ix3 0 r s))
  (hw : ∀ l : Fin 2048, w (ix2 0 l) = H (ix3 0 s l))
  (hst : ∀ k e : Fin 128, st (ix4 0 0 k e) = St (ix5 0 s ⟨h, hh⟩ k e))

include hb hf in
theorem forget_at (k : Fin 128) : forgetOf c b h hh (ix2 k 0) = forget F L (ix3 s ⟨h, hh⟩ k) := by
  pointwise [forgetOf, forget, keep, gate, byHead, hb, hf]
  rw [show (⟨512 + h * 128 + k.val, by omega⟩ : Fin 1024) = forgetRow (feature ⟨h, hh⟩ k) from Fin.ext (by simp only [forgetRow, feature]; omega), hf,
    show (⟨h * 128 + k.val, by omega⟩ : Fin 512) = feature ⟨h, hh⟩ k from rfl, hb]
  rfl

include hq in
theorem query_at (k : Fin 128) : queryOf c h hh (ix2 k 0) = mulf (byHead Q) (gate (byHead Q)) (ix3 s ⟨h, hh⟩ k) := by
  pointwise [queryOf, gate, byHead, hq]
  rw [show (⟨h * 128 + k.val, by omega⟩ : Fin 1024) = queryRow (feature ⟨h, hh⟩ k) from rfl, hq]
  rfl

include hb hf hw hst in
theorem state_at (k e : Fin 128) : stateOf c b w st h hh (ix2 k e) = state F H L St (ix4 s ⟨h, hh⟩ k e) := by
  pointwise [stateOf, state, update, values, forget_at c b h hh F L s hb hf, hw, hst]
  rw [show (⟨1024 + h * 128 + e.val, by omega⟩ : Fin 2048) = ⟨1024 + (h * 128 + e.val), by omega⟩ from Fin.ext (by simp only; omega)]

include hb hf hw hst hq in
theorem reads_at (e : Fin 128) : readsOf c b w st h hh (ix2 0 e) = reads Q (state F H L St) (ix3 s ⟨h, hh⟩ e) := by
  pointwise [readsOf, reads, readOut, query_at c h hh Q s hq, state_at c b w st h hh F H L St s hb hf hw hst]

include hb hf hw hst in
theorem statePiece_at (k e : Fin 128) : statePiece c b w st h hh (ix4 0 0 k e) = state F H L St (ix4 s ⟨h, hh⟩ k e) := by
  pointwise [statePiece, state_at c b w st h hh F H L St s hb hf hw hst]

include hb hf hw hst hq in
theorem outPiece_at (hg : ∀ k : Fin 128, g (ix2 0 k) = G (ix2 0 k)) (e : Fin 128) :
    outPiece c b w st g h hh (ix3 0 0 e) = gated (reads Q (state F H L St)) H G (ix3 s 0 (feature ⟨h, hh⟩ e)) := by
  pointwise [outPiece, gatedOf, gated, normGate, outGate, feature, reads_at c b w st h hh Q F H L St s hb hf hq hw hst, hw, hg]
  rw [show (⟨1536 + h * 128 + e.val, by omega⟩ : Fin 2048) = ⟨1536 + (h * 128 + e.val), by omega⟩ from Fin.ext (by simp only; omega),
    show (⟨(h * 128 + e.val) / 128, by omega⟩ : Fin 4) = ⟨h, hh⟩ from Fin.ext (by simp only; omega)]
  rfl

end Kernel

end Cert.StepStages

end
-- ==== Proof.SampleStages.lean ====
module

public import proofs.«01_k».proof.Proof.Gen.SampleIdeal.Skeleton
public import proofs.«01_k».proof.Proof.Gen.SampleRefIdeal.Run
public import proofs.«01_k».proof.Proof.StepStages
public import Idealize.ShloMosaic.Lib.Pointwise

/-! The samples' calls, stage by stage.

As `PromptStages`, with a sample in each row: the conditioning has a row for each of them as well. The reference's term
is named in stages, and each stage of the kernels' bodies is compared with its stage of the reference at one row. -/

@[expose] public section

set_option maxRecDepth 16384

noncomputable section

open Idealize.ShloMosaic Idealize.ShloMosaic.TcCoe Idealize.SL.Sem

namespace Cert.SampleStages

section Reference
open Cert.SampleRefIdeal Cert.SampleRefIdeal.Gen

/-- The samples' rows. -/
def rows (X : FVec Ideal S128x1x1024 .f32) : FVec Ideal S128x1024 .f32 := shapeCast _ X shapeCasts_S128x1x1024_S128x1024

/-- A mixer's rows. -/
def mixer (X : FVec Ideal S128x1x512 .f32) : FVec Ideal S128x512 .f32 := shapeCast _ X shapeCasts_S128x1x512_S128x512

/-- The conditioning: the activated input through its linear map. -/
def cond (C : FVec Ideal S128x1024 .f32) (W : FVec Ideal S1x1024x6144 .f32) (B : FVec Ideal S1x6144 .f32) : FVec Ideal S128x6144 .f32 :=
  addf (Host.dotGeneral dot_S128x1024_S1024x6144_S128x6144_1_0_0_1_n_n none
      (mulf C (Host.divf (broadcastInDim S128x1024 ![] bcast_S_S128x1024 (constant S_ .f32 0x3F800000#32))
        (addf (broadcastInDim S128x1024 ![] bcast_S_S128x1024 (constant S_ .f32 0x3F800000#32)) (Host.exp (Host.negf C)))))
      (shapeCast _ W shapeCasts_S1x1024x6144_S1024x6144))
    (broadcastInDim S128x6144 ![0, 1] bcast_S1x6144_S128x6144_0_1 (broadcastInDim S1x6144 ![1] bcast_S6144_S1x6144_1
      (shapeCast _ B shapeCasts_S1x6144_S6144)))

/-- The logistic function of an array, as the reference spells it. -/
def gate (x : FVec Ideal S128x1024 .f32) : FVec Ideal S128x1024 .f32 :=
  Host.divf (broadcastInDim S128x1024 ![] bcast_S_S128x1024 (constant S_ .f32 0x3F800000#32))
    (addf (broadcastInDim S128x1024 ![] bcast_S_S128x1024 (constant S_ .f32 0x3F800000#32)) (Host.exp (Host.negf x)))

/-- The weighted root-mean-square normalisation of every row. -/
def rms (Z : FVec Ideal S128x1024 .f32) (W : FVec Ideal S1024 .f32) : FVec Ideal S128x1024 .f32 :=
  mulf (mulf Z (broadcastInDim S128x1024 ![0, 1] bcast_S128x1_S128x1024_0_1 (Host.rsqrt
      (addf (Host.divf (broadcastInDim S128x1 ![0] bcast_S128_S128x1_0
          (Host.reduceAdd (mulf Z Z) (constant S_ .f32 0x00000000#32) reducesTo_S128x1024_S128_d1 h_S_))
          (broadcastInDim S128x1 ![] bcast_S_S128x1 (constant S_ .f32 0x44800000#32)))
        (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 W))

/-- The normalised rows, scaled and shifted by two parts of the conditioning. -/
def modulated (Z : FVec Ideal S128x1024 .f32) (N : FVec Ideal S1x1024 .f32) (sh sc : FVec Ideal S128x1024 .f32) : FVec Ideal S128x1024 .f32 :=
  addf (mulf (rms Z (shapeCast _ N shapeCasts_S1x1024_S1024))
      (addf (broadcastInDim S128x1024 ![] bcast_S_S128x1024 (constant S_ .f32 0x3F800000#32)) sc)) sh

/-- The rows the projection reads. -/
def normed (X : FVec Ideal S128x1024 .f32) (A : FVec Ideal S128x6144 .f32) (N : FVec Ideal S1x1024 .f32) : FVec Ideal S128x1024 .f32 :=
  modulated X N (extractStridedSlice S128x1024 ![0, 0] A slices_S128x6144_S128x1024_0_0)
    (extractStridedSlice S128x1024 ![0, 1024] A slices_S128x6144_S128x1024_0_1024)

/-- The projection of the normalised rows, all columns. -/
def proj (H : FVec Ideal S128x1024 .f32) (W : FVec Ideal S1x1024x5632 .f32) : FVec Ideal S128x5632 .f32 :=
  Host.dotGeneral dot_S128x1024_S1024x5632_S128x5632_1_0_0_1_n_n none H (shapeCast _ W shapeCasts_S1x1024x5632_S1024x5632)

/-- The recurrence's four inputs, side by side: four groups of the projection's columns. -/
def recur (P : FVec Ideal S128x5632 .f32) : FVec Ideal Cert.StepRefIdeal.S1x128x2048 .f32 :=
  fun i => P (ix2 (i 1) ⟨1536 + (i 2).val, by have : (i 2).val < 2048 := (i 2).isLt; omega⟩)

/-- The two gates, side by side: the projection's last columns. -/
def gates (P : FVec Ideal S128x5632 .f32) : FVec Ideal Cert.StepRefIdeal.S1x128x2048 .f32 :=
  fun i => P (ix2 (i 1) ⟨3584 + (i 2).val, by have : (i 2).val < 2048 := (i 2).isLt; omega⟩)

/-- Some columns of the projection as heads, features, samples. -/
def heads (x : FVec Ideal S128x512 .f32) : FVec Ideal S1x8x64x128 .f32 :=
  broadcastInDim S1x8x64x128 ![1, 2, 3] bcast_S8x64x128_S1x8x64x128_1_2_3
    (transpose S8x64x128 [1, 2, 0] (shapeCast _ x shapeCasts_S128x512_S128x8x64) transposes_S128x8x64_S8x64x128_1_2_0)

/-- Some columns of the projection as features, samples. -/
def turned (x : FVec Ideal S128x512 .f32) : FVec Ideal S1x512x128 .f32 :=
  broadcastInDim S1x512x128 ![1, 2] bcast_S512x128_S1x512x128_1_2 (transpose S512x128 [1, 0] x transposes_S128x512_S512x128_1_0)

/-- The attention's keys. -/
def keys (P : FVec Ideal S128x5632 .f32) : FVec Ideal S1x8x64x128 .f32 :=
  heads (extractStridedSlice S128x512 ![0, 512] P slices_S128x5632_S128x512_0_512)

/-- The attention's values. -/
def vals (P : FVec Ideal S128x5632 .f32) : FVec Ideal S1x8x64x128 .f32 :=
  heads (extractStridedSlice S128x512 ![0, 1024] P slices_S128x5632_S128x512_0_1024)

/-- The attention's queries, turned. -/
def queries (P : FVec Ideal S128x5632 .f32) : FVec Ideal S1x512x128 .f32 :=
  turned (extractStridedSlice S128x512 ![0, 0] P slices_S128x5632_S128x512_0_0)

/-- The recurrence's queries, turned. -/
def recurQueries (P : FVec Ideal S128x5632 .f32) : FVec Ideal S1x512x128 .f32 :=
  turned (extractStridedSlice S128x512 ![0, 1536] P slices_S128x5632_S128x512_0_1536)

/-- The recurrence's forget gates, turned. -/
def recurForget (P : FVec Ideal S128x5632 .f32) : FVec Ideal S1x512x128 .f32 :=
  turned (extractStridedSlice S128x512 ![0, 2048] P slices_S128x5632_S128x512_0_2048)

/-- The residual stream after the two mixers, merged by their gates. -/
def mixed (X : FVec Ideal S128x1024 .f32) (OA OH : FVec Ideal S128x512 .f32) (P : FVec Ideal S128x5632 .f32)
    (A : FVec Ideal S128x6144 .f32) (WA WH : FVec Ideal S1x512x1024 .f32) (WO : FVec Ideal S1x1024x1024 .f32) : FVec Ideal S128x1024 .f32 :=
  addf X (mulf (extractStridedSlice S128x1024 ![0, 2048] A slices_S128x6144_S128x1024_0_2048)
    (Host.dotGeneral dot_S128x1024_S1024x1024_S128x1024_1_0_0_1_n_n none
      (addf
        (mulf (gate (extractStridedSlice S128x1024 ![0, 3584] P slices_S128x5632_S128x1024_0_3584))
          (Host.dotGeneral dot_S128x512_S512x1024_S128x1024_1_0_0_1_n_n none OA (shapeCast _ WA shapeCasts_S1x512x1024_S512x1024)))
        (mulf (gate (extractStridedSlice S128x1024 ![0, 4608] P slices_S128x5632_S128x1024_0_4608))
          (Host.dotGeneral dot_S128x512_S512x1024_S128x1024_1_0_0_1_n_n none OH (shapeCast _ WH shapeCasts_S1x512x1024_S512x1024))))
      (shapeCast _ WO shapeCasts_S1x1024x1024_S1024x1024)))

/-- The residual stream after the feed-forward block. -/
def fed (Z : FVec Ideal S128x1024 .f32) (A : FVec Ideal S128x6144 .f32) (N : FVec Ideal S1x1024 .f32)
    (W1 : FVec Ideal S1x1024x4096 .f32) (W2 : FVec Ideal S1x4096x1024 .f32) : FVec Ideal S128x1024 .f32 :=
  let U : FVec Ideal S128x4096 .f32 :=
    maximumf (Host.dotGeneral dot_S128x1024_S1024x4096_S128x4096_1_0_0_1_n_n none
        (modulated Z N (extractStridedSlice S128x1024 ![0, 3072] A slices_S128x6144_S128x1024_0_3072)
          (extractStridedSlice S128x1024 ![0, 4096] A slices_S128x6144_S128x1024_0_4096))
        (shapeCast _ W1 shapeCasts_S1x1024x4096_S1024x4096))
      (broadcastInDim S128x4096 ![] bcast_S_S128x4096 (constant S_ .f32 0x00000000#32))
  addf Z (mulf (extractStridedSlice S128x1024 ![0, 5120] A slices_S128x6144_S128x1024_0_5120)
    (Host.dotGeneral dot_S128x4096_S4096x1024_S128x1024_1_0_0_1_n_n none (mulf U U) (shapeCast _ W2 shapeCasts_S1x4096x1024_S4096x1024)))

/-- The result: the residual stream normalised, behind a leading axis. -/
def result (Z : FVec Ideal S128x1024 .f32) (W : FVec Ideal S1024 .f32) : FVec Ideal S1x128x1024 .f32 :=
  broadcastInDim S1x128x1024 ![1, 2] bcast_S128x1024_S1x128x1024_1_2 (rms Z W)

/-- A part of the recurrence's inputs, by heads. -/
def byHeads (x : FVec Ideal S128x512 .f32) : FVec Ideal S128x4x128 .f32 := shapeCast _ x shapeCasts_S128x512_S128x4x128

/-- The recurrence's new state. -/
def newState (P : FVec Ideal S128x5632 .f32) (L : FVec Ideal S2x512 .f32) (St : FVec Ideal S1x128x4x128x128 .f32) : FVec Ideal S128x4x128x128 .f32 :=
  StepStages.update (StepStages.keep (byHeads (extractStridedSlice S128x512 ![0, 2048] P slices_S128x5632_S128x512_0_2048)) L)
    (byHeads (extractStridedSlice S128x512 ![0, 2560] P slices_S128x5632_S128x512_0_2560)) St

/-- The recurrence's output. -/
def newOut (P : FVec Ideal S128x5632 .f32) (L : FVec Ideal S2x512 .f32) (G : FVec Ideal S1x128 .f32) (St : FVec Ideal S1x128x4x128x128 .f32) :
    FVec Ideal S128x512 .f32 :=
  StepStages.normGate (StepStages.readOut (byHeads (extractStridedSlice S128x512 ![0, 1536] P slices_S128x5632_S128x512_0_1536)) (newState P L St))
    (extractStridedSlice S128x512 ![0, 3072] P slices_S128x5632_S128x512_0_3072) G

section Composed
variable (g : Valuation τ sig (Elt Ideal))

/-- The reference's conditioning, from its arguments. -/
abbrev refCond : FVec Ideal S128x6144 .f32 :=
  cond (g (Proc.devRef .tc main_arg2)) (g (Proc.devRef .tc main_arg3)) (g (Proc.devRef .tc main_arg4))
/-- The reference's projection, from its arguments. -/
abbrev refProj : FVec Ideal S128x5632 .f32 :=
  proj (normed (rows (g (Proc.devRef .tc main_arg0))) (refCond g) (g (Proc.devRef .tc main_arg5))) (g (Proc.devRef .tc main_arg6))

/-- The reference's projection is its stages composed. -/
theorem proj_eq : Value.res_main_v33 g = refProj g := rfl

/-- What the reference's state gives for its queries is its stages composed. -/
theorem read_eq : Value.res_main_v87 g = StepStages.readOut
    (byHeads (extractStridedSlice S128x512 ![0, 1536] (Value.res_main_v33 g) slices_S128x5632_S128x512_0_1536))
    (newState (Value.res_main_v33 g) (g (Proc.devRef .tc main_arg8)) (g (Proc.devRef .tc main_arg10))) := rfl

/-- The reference's residual stream after the mixers is its stages composed. -/
theorem mixed_eq : Value.res_main_v128 g
    = mixed (rows (g (Proc.devRef .tc main_arg0))) (mixer (g (Proc.devRef .tc main_arg7)))
        (StepStages.normGate (Value.res_main_v87 g) (extractStridedSlice S128x512 ![0, 3072] (Value.res_main_v33 g) slices_S128x5632_S128x512_0_3072)
          (g (Proc.devRef .tc main_arg9)))
        (Value.res_main_v33 g) (refCond g) (g (Proc.devRef .tc main_arg11)) (g (Proc.devRef .tc main_arg12)) (g (Proc.devRef .tc main_arg13)) := rfl

/-- The reference's last residual stream is its stages composed. -/
theorem fed_eq : Value.res_main_v154 g
    = fed (mixed (rows (g (Proc.devRef .tc main_arg0))) (mixer (g (Proc.devRef .tc main_arg7)))
        (newOut (refProj g) (g (Proc.devRef .tc main_arg8)) (g (Proc.devRef .tc main_arg9)) (g (Proc.devRef .tc main_arg10)))
        (refProj g) (refCond g) (g (Proc.devRef .tc main_arg11)) (g (Proc.devRef .tc main_arg12)) (g (Proc.devRef .tc main_arg13)))
      (refCond g) (g (Proc.devRef .tc main_arg14)) (g (Proc.devRef .tc main_arg15)) (g (Proc.devRef .tc main_arg16)) := by
  have e : Value.res_main_v154 g = fed (Value.res_main_v128 g) (refCond g) (g (Proc.devRef .tc main_arg14)) (g (Proc.devRef .tc main_arg15))
    (g (Proc.devRef .tc main_arg16)) := rfl
  rw [e, mixed_eq, read_eq, proj_eq]
  rfl

end Composed

variable (P : FVec Ideal S128x5632 .f32) (s : Fin 128)

theorem recur_at (l : Fin 2048) : recur P (ix3 0 s l) = P (ix2 s ⟨1536 + l.val, by omega⟩) := by
  rfl

theorem gates_at (l : Fin 2048) : gates P (ix3 0 s l) = P (ix2 s ⟨3584 + l.val, by omega⟩) := by
  rfl

theorem keys_at (a : Fin 8) (b : Fin 64) : keys P (ix4 0 a b s) = P (ix2 s ⟨512 + (a.val * 64 + b.val), by omega⟩) := by
  pointwise [keys, heads]

theorem vals_at (a : Fin 8) (b : Fin 64) : vals P (ix4 0 a b s) = P (ix2 s ⟨1024 + (a.val * 64 + b.val), by omega⟩) := by
  pointwise [vals, heads]

theorem queries_at (l : Fin 512) : queries P (ix3 0 l s) = P (ix2 s ⟨l.val, by omega⟩) := by
  pointwise [queries, turned]

theorem recurQueries_at (l : Fin 512) : recurQueries P (ix3 0 l s) = P (ix2 s ⟨1536 + l.val, by omega⟩) := by
  pointwise [recurQueries, turned]

theorem recurForget_at (l : Fin 512) : recurForget P (ix3 0 l s) = P (ix2 s ⟨2048 + l.val, by omega⟩) := by
  pointwise [recurForget, turned]

/-- The recurrence's turned inputs, turned back, are the projection's columns. -/
theorem queries_back : StepStages.byHead (recurQueries P)
    = byHeads (extractStridedSlice S128x512 ![0, 1536] P slices_S128x5632_S128x512_0_1536) := by
  funext y
  idx_vars y
  pointwise [StepStages.byHead, recurQueries, turned, byHeads]

theorem forget_back : StepStages.byHead (recurForget P)
    = byHeads (extractStridedSlice S128x512 ![0, 2048] P slices_S128x5632_S128x512_0_2048) := by
  funext y
  idx_vars y
  pointwise [StepStages.byHead, recurForget, turned, byHeads]

theorem values_back : StepStages.values (recur P)
    = byHeads (extractStridedSlice S128x512 ![0, 2560] P slices_S128x5632_S128x512_0_2560) := by
  funext y
  idx_vars y
  pointwise [StepStages.values, byHeads, recur_at]
  exact congrArg (fun q => P (ix2 y0 q)) (Fin.ext (by simp only; omega))

theorem outGate_back : StepStages.outGate (recur P) = extractStridedSlice S128x512 ![0, 3072] P slices_S128x5632_S128x512_0_3072 := by
  funext y
  idx_vars y
  pointwise [StepStages.outGate, recur_at]
  exact congrArg (fun q => P (ix2 y0 q)) (Fin.ext (by simp only; omega))

/-- The step from the turned inputs is the step from the projection's columns. -/
theorem state_back (L : FVec Ideal S2x512 .f32) (St : FVec Ideal S1x128x4x128x128 .f32) :
    StepStages.state (recurForget P) (recur P) L St = newState P L St := by
  unfold StepStages.state StepStages.forget
  rw [forget_back, values_back]
  rfl

theorem out_back (L : FVec Ideal S2x512 .f32) (G : FVec Ideal S1x128 .f32) (St : FVec Ideal S1x128x4x128x128 .f32) (l : Fin 512) :
    StepStages.gated (StepStages.reads (recurQueries P) (newState P L St)) (recur P) G (ix3 s 0 l) = newOut P L G St (ix2 s l) := by
  have e : ∀ Y : FVec Ideal Cert.StepRefIdeal.S128x512 .f32,
      broadcastInDim Cert.StepRefIdeal.S128x1x512 ![0, 2] Cert.StepRefIdeal.Gen.bcast_S128x512_S128x1x512_0_2 Y (ix3 s 0 l) = Y (ix2 s l) := by
    intro Y
    pointwise
  unfold StepStages.reads StepStages.gated
  rw [queries_back, outGate_back]
  exact e _

theorem proj_at (H : FVec Ideal S128x1024 .f32) (W : FVec Ideal S1x1024x5632 .f32) (l : Fin 5632) :
    proj H W (ix2 s l) = ∑ k : Fin 1024, H (ix2 s k) * W (ix3 0 k l) := by
  pointwise [proj]

end Reference

section Conditioning
open Cert.SampleIdeal Cert.SampleIdeal.Gen

/-- The conditioning of every row the kernel's call is given, the prompt's and the samples'. -/
def condAll (C : FVec Ideal S160x1024 .f32) (W : FVec Ideal S1024x6144 .f32) (B : FVec Ideal S1x6144 .f32) : FVec Ideal S160x6144 .f32 :=
  fun y => (∑ k : Fin 1024, C (ix2 (y 0) k) * Ideal.logistic (C (ix2 (y 0) k)) * W (ix2 k (y 1))) + B (ix2 0 (y 1))

/-- A block of the conditioning kernel: all rows, the columns `col`. -/
theorem condAll_at (v0 : Vec Ideal S160x1024 .f32) (v4 : Vec Ideal S1024x1536 .f32) (v7 : Vec Ideal S1x1536 .f32)
    (C : FVec Ideal S160x1024 .f32) (W : FVec Ideal S1024x6144 .f32) (B : FVec Ideal S1x6144 .f32) (col : Fin 1536 → Fin 6144)
    (h0 : ∀ (i : Fin 160) (k : Fin 1024), v0 (ix2 i k) = C (ix2 i k)) (h4 : ∀ (k : Fin 1024) (l : Fin 1536), v4 (ix2 k l) = W (ix2 k (col l)))
    (h7 : ∀ l : Fin 1536, v7 (ix2 0 l) = B (ix2 0 (col l))) (i : Fin 160) (l : Fin 1536) :
    k0_pay1 v0 v4 v7 (ix2 i l) = condAll C W B (ix2 i (col l)) := by
  pointwise [k0_pay1, h0, h4, h7]
  rfl

/-- The rows after the prompt's are the reference's conditioning of the samples. -/
theorem condAll_cond (C' : FVec Ideal S160x1024 .f32) (W' : FVec Ideal S1024x6144 .f32) (B : FVec Ideal S1x6144 .f32)
    (C : FVec Ideal Cert.SampleRefIdeal.S128x1024 .f32) (W : FVec Ideal Cert.SampleRefIdeal.S1x1024x6144 .f32) (n : Fin 128)
    (hC : ∀ k : Fin 1024, C' (ix2 ⟨32 + n.val, by omega⟩ k) = C (ix2 n k)) (hW : ∀ (k : Fin 1024) (l : Fin 6144), W' (ix2 k l) = W (ix3 0 k l)) (l : Fin 6144) :
    condAll C' W' B (ix2 ⟨32 + n.val, by omega⟩ l) = cond C W B (ix2 n l) := by
  have e : condAll C' W' B (ix2 ⟨32 + n.val, by omega⟩ l)
      = (∑ k : Fin 1024, C' (ix2 ⟨32 + n.val, by omega⟩ k) * Ideal.logistic (C' (ix2 ⟨32 + n.val, by omega⟩ k)) * W' (ix2 k l)) + B (ix2 0 l) := rfl
  rw [e]
  pointwise [cond, hC, hW]
  rfl

end Conditioning

section Projection
open Cert.SampleIdeal Cert.SampleIdeal.Gen

/-- The rows are the reference's. -/
theorem normed_at (v0 : Vec Ideal S1x128x6144 .f32) (v2 : Vec Ideal S1x128x1024 .f32) (v4 : Vec Ideal S1x1024 .f32)
    (X : FVec Ideal Cert.SampleRefIdeal.S128x1024 .f32) (A : FVec Ideal Cert.SampleRefIdeal.S128x6144 .f32) (N : FVec Ideal Cert.SampleRefIdeal.S1x1024 .f32)
    (h0 : ∀ (r : Fin 128) (l : Fin 6144), v0 (ix3 0 r l) = A (ix2 r l)) (h2 : ∀ (r : Fin 128) (l : Fin 1024), v2 (ix3 0 r l) = X (ix2 r l))
    (h4 : ∀ l : Fin 1024, v4 (ix2 0 l) = N (ix2 0 l)) (r : Fin 128) (l : Fin 1024) :
    k1_pay2 v0 v2 v4 (ix2 r l) = normed X A N (ix2 r l) := by
  pointwise [k1_pay2, normed, modulated, rms, h0, h2, h4]

variable (H : FVec Ideal Cert.SampleRefIdeal.S128x1024 .f32) (W : FVec Ideal Cert.SampleRefIdeal.S1x1024x5632 .f32)

theorem pay5_at (v0 : Vec Ideal S1x128x6144 .f32) (v2 : Vec Ideal S1x128x1024 .f32) (v4 : Vec Ideal S1x1024 .f32) (v30 : Vec Ideal S1024x2048 .bf16)
    (h : ∀ (r : Fin 128) (l : Fin 1024), k1_pay2 v0 v2 v4 (ix2 r l) = H (ix2 r l))
    (hw : ∀ (k : Fin 1024) (l : Fin 2048), v30 (ix2 k l) = W (ix3 0 k ⟨1536 + l.val, by omega⟩)) (r : Fin 128) (l : Fin 2048) :
    k1_pay5 (k1_pay4 v0 v2 v4 v30) (ix3 0 r l) = recur (proj H W) (ix3 0 r l) := by
  rw [recur_at, proj_at]
  pointwise [k1_pay5, k1_pay4, h, hw]

variable (v23 : FVec Ideal S128x1024 .bf16) (h : ∀ (r : Fin 128) (l : Fin 1024), v23 (ix2 r l) = H (ix2 r l))
include h

theorem pay6_at (v36 : Vec Ideal S1024x2048 .bf16)
    (hw : ∀ (k : Fin 1024) (l : Fin 2048), v36 (ix2 k l) = W (ix3 0 k ⟨3584 + l.val, by omega⟩)) (r : Fin 128) (l : Fin 2048) :
    k1_pay6 v23 v36 (ix3 0 r l) = gates (proj H W) (ix3 0 r l) := by
  rw [gates_at, proj_at]
  pointwise [k1_pay6, h, hw]

omit h in
/-- The column of the weight in a row of the transposed one: keys and values first, then queries, then two of the
recurrence's inputs. -/
def column (l : Fin 2560) : Fin 5632 :=
  ⟨if l.val < 1024 then 512 + l.val else if l.val < 1536 then l.val - 1024 else l.val, by repeat' split
                                                                                          all_goals omega⟩

variable (v42 : Vec Ideal S2560x1024 .bf16) (hw : ∀ (l : Fin 2560) (k : Fin 1024), v42 (ix2 l k) = W (ix3 0 k (column l)))
include hw

/-- The transposed projection, at one row of the transposed weight. -/
theorem pay7_at (l : Fin 2560) (r : Fin 128) : k1_pay7 v23 v42 (ix2 l r) = proj H W (ix2 r (column l)) := by
  rw [proj_at]
  pointwise [k1_pay7, h, hw]
  exact Finset.sum_congr rfl fun _ _ => mul_comm _ _

theorem pay8_at (a : Fin 8) (b : Fin 64) (r : Fin 128) : k1_pay8 v23 v42 (ix4 0 a b r) = keys (proj H W) (ix4 0 a b r) := by
  rw [keys_at]
  pointwise [k1_pay8, pay7_at H W v23 h v42 hw]
  exact congrArg (fun q => proj H W (ix2 r q)) (Fin.ext (by simp only [column]; split <;> omega))

theorem pay9_at (a : Fin 8) (b : Fin 64) (r : Fin 128) : k1_pay9 v23 v42 (ix4 0 a b r) = vals (proj H W) (ix4 0 a b r) := by
  rw [vals_at]
  pointwise [k1_pay9, pay7_at H W v23 h v42 hw]
  exact congrArg (fun q => proj H W (ix2 r q)) (Fin.ext (by simp only [column]; split <;> omega))

theorem pay10_at (l : Fin 512) (r : Fin 128) : k1_pay10 v23 v42 (ix3 0 l r) = queries (proj H W) (ix3 0 l r) := by
  rw [queries_at]
  pointwise [k1_pay10, pay7_at H W v23 h v42 hw]
  exact congrArg (fun q => proj H W (ix2 r q)) (Fin.ext (by simp only [column]; repeat' split
                                                            all_goals omega))

theorem pay11_at (l : Fin 512) (r : Fin 128) : k1_pay11 v23 v42 (ix3 0 l r) = recurQueries (proj H W) (ix3 0 l r) := by
  rw [recurQueries_at]
  pointwise [k1_pay11, pay7_at H W v23 h v42 hw]
  exact congrArg (fun q => proj H W (ix2 r q)) (Fin.ext (by simp only [column]; repeat' split
                                                            all_goals omega))

theorem pay12_at (l : Fin 512) (r : Fin 128) : k1_pay1 (k1_pay12 v23 v42) (ix3 0 l r) = recurForget (proj H W) (ix3 0 l r) := by
  rw [recurForget_at]
  pointwise [k1_pay1, k1_pay12, pay7_at H W v23 h v42 hw]
  exact congrArg (fun q => proj H W (ix2 r q)) (Fin.ext (by simp only [column]; repeat' split
                                                            all_goals omega))

end Projection

section FeedForward
open Cert.SampleIdeal Cert.SampleIdeal.Gen

/-- The rows after the mixers are the reference's. -/
theorem mixed_at (v0 : Vec Ideal S1x128x6144 .f32) (v2 : Vec Ideal S1x128x2048 .f32) (v4 : Vec Ideal S1x128x512 .f32) (v7 : Vec Ideal S512x1024 .bf16)
    (v10 : Vec Ideal S1x128x512 .f32) (v13 : Vec Ideal S512x1024 .bf16) (v23 : Vec Ideal S1x128x1024 .f32) (v27 : Vec Ideal S1024x1024 .bf16)
    (X : FVec Ideal Cert.SampleRefIdeal.S128x1024 .f32) (OA OH : FVec Ideal Cert.SampleRefIdeal.S128x512 .f32) (P : FVec Ideal Cert.SampleRefIdeal.S128x5632 .f32)
    (A : FVec Ideal Cert.SampleRefIdeal.S128x6144 .f32) (WA WH : FVec Ideal Cert.SampleRefIdeal.S1x512x1024 .f32) (WO : FVec Ideal Cert.SampleRefIdeal.S1x1024x1024 .f32)
    (h0 : ∀ (r : Fin 128) (l : Fin 6144), v0 (ix3 0 r l) = A (ix2 r l)) (h2 : ∀ (r : Fin 128) (l : Fin 2048), v2 (ix3 0 r l) = gates P (ix3 0 r l))
    (h4 : ∀ (r : Fin 128) (l : Fin 512), v4 (ix3 0 r l) = OA (ix2 r l)) (h7 : ∀ (k : Fin 512) (l : Fin 1024), v7 (ix2 k l) = WA (ix3 0 k l))
    (h10 : ∀ (r : Fin 128) (l : Fin 512), v10 (ix3 0 r l) = OH (ix2 r l)) (h13 : ∀ (k : Fin 512) (l : Fin 1024), v13 (ix2 k l) = WH (ix3 0 k l))
    (h23 : ∀ (r : Fin 128) (l : Fin 1024), v23 (ix3 0 r l) = X (ix2 r l)) (h27 : ∀ (k : Fin 1024) (l : Fin 1024), v27 (ix2 k l) = WO (ix3 0 k l))
    (r : Fin 128) (l : Fin 1024) :
    k3_pay3 v0 v2 v4 v7 v10 v13 v23 v27 (ix2 r l) = mixed X OA OH P A WA WH WO (ix2 r l) := by
  pointwise [k3_pay3, k3_pay2, mixed, gate, gates_at, h0, h2, h4, h7, h10, h13, h23, h27]
  have e : ∀ x : Fin 1024, (⟨3584 + (1024 + x.val), by omega⟩ : Fin 5632) = ⟨4608 + x.val, by omega⟩ :=
    fun x => Fin.ext (by simp only; omega)
  simp only [e]
  rfl

/-- What the body stores, at a row, is the reference's result at that row. -/
theorem result_at (v1 : FVec Ideal S128x6144 .f32) (v31 : FVec Ideal S128x1024 .f32) (v32 : Vec Ideal S1x1024 .f32) (v52 : Vec Ideal S1024x4096 .bf16)
    (v60 : Vec Ideal S4096x1024 .bf16) (v75 : Vec Ideal S1x1024 .f32)
    (Z : FVec Ideal Cert.SampleRefIdeal.S128x1024 .f32) (A : FVec Ideal Cert.SampleRefIdeal.S128x6144 .f32) (N : FVec Ideal Cert.SampleRefIdeal.S1x1024 .f32)
    (W1 : FVec Ideal Cert.SampleRefIdeal.S1x1024x4096 .f32) (W2 : FVec Ideal Cert.SampleRefIdeal.S1x4096x1024 .f32) (W : FVec Ideal Cert.SampleRefIdeal.S1024 .f32)
    (h1 : ∀ (r : Fin 128) (l : Fin 6144), v1 (ix2 r l) = A (ix2 r l)) (h31 : ∀ (r : Fin 128) (l : Fin 1024), v31 (ix2 r l) = Z (ix2 r l))
    (h32 : ∀ l : Fin 1024, v32 (ix2 0 l) = N (ix2 0 l)) (h52 : ∀ (k : Fin 1024) (l : Fin 4096), v52 (ix2 k l) = W1 (ix3 0 k l))
    (h60 : ∀ (k : Fin 4096) (l : Fin 1024), v60 (ix2 k l) = W2 (ix3 0 k l)) (h75 : ∀ l : Fin 1024, v75 (ix2 0 l) = W (ix1 l))
    (r : Fin 128) (l : Fin 1024) :
    k3_pay1 (k3_pay4 v1 v31 v32 v52 v60) v75 (ix3 0 r l) = result (fed Z A N W1 W2) W (ix3 0 r l) := by
  pointwise [k3_pay1, k3_pay4, result, fed, modulated, rms, h1, h31, h32, h52, h60, h75]

end FeedForward

end Cert.SampleStages

end
-- ==== Proof.SampleCond.lean ====
module

public import proofs.«01_k».proof.Proof.Gen.SampleIdeal.Frame
public import proofs.«01_k».proof.Proof.SampleStages
public import Idealize.ShloMosaic.Lib.Pipeline.ValueKit
public import Idealize.ShloMosaic.Lib.StableHlo.Run

/-! The conditioning call's result array.

Grid point `t` computes 1536 columns of all rows, from column `1536 * t`. -/

@[expose] public section

set_option maxRecDepth 16384

noncomputable section

open Idealize.ShloMosaic Idealize.ShloMosaic.TcCoe Idealize.SL.Sem
open Idealize.ShloMosaic.Pipeline (Dat)

namespace Cert.SampleIdeal.CondValue

open Cert.SampleIdeal Cert.SampleIdeal.Gen Cert.SampleStages

variable (V : (c : Dev nD) → (b : Ref sig .tc) → Buf (Elt Ideal) ((c : Thread nD τ).loc b))

/-- Every window's block at every grid point. -/
theorem idx_val : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

/-- The column, in the whole array, of column `l` of grid point `t`. -/
def col (t : Fin cfg0.N) (l : Fin 1536) : Fin 6144 := ⟨t.val * 1536 + l.val, by have : t.val < 4 := t.isLt; omega⟩

/-- What a grid point stores is the conditioning where the block lies. -/
theorem point (c : Dev nD) (t : Fin cfg0.N) (y) :
    k0_pay1 (iblk0 V c 0 t) (iblk0 V c 1 t) (iblk0 V c 2 t) y
      = condAll (V c main_v24) (V c main_v25) (V c main_arg4) (((cfg0.win 3).blk t).view.emb y) := by
  idx_vars y
  have e : ((cfg0.win 3).blk t).view.emb (ix2 y0 y1) = ix2 y0 (col t y1) := by
    blk_ext [idx_val t, col]
  refine Eq.trans ?_ (congrArg (condAll (V c main_v24) (V c main_v25) (V c main_arg4)) e).symm
  refine condAll_at _ _ _ _ _ _ (col t) ?_ ?_ ?_ y0 y1
  all_goals intros
  all_goals blk_point [iblk0, idx_val t, col]

/-- The conditioning call's result after the region. -/
theorem final (c : Dev nD) : (dat0 V c).arrAt 3 cfg0.N = condAll (V c main_v24) (V c main_v25) (V c main_arg4) := by
  refine (dat0 V c).arrAt_eq_of_covers 3 _ (by decide +kernel) fun t hf y => ?_
  blk_simp; rw [after0_3]; frame_out
  exact point V c t y

end Cert.SampleIdeal.CondValue

end
-- ==== Proof.SampleInproj.lean ====
module

public import proofs.«01_k».proof.Proof.Gen.SampleIdeal.Frame
public import proofs.«01_k».proof.Proof.SampleStages
public import Idealize.ShloMosaic.Lib.Pipeline.ValueKit
public import Idealize.ShloMosaic.Lib.StableHlo.Run

/-! The input projection's result arrays, for the samples.

One grid point computes all rows. Each result is the reference's, given that the conditioning, the rows and the columns
of the weight are where the call reads them. -/

@[expose] public section

set_option maxRecDepth 16384

noncomputable section

open Idealize.ShloMosaic Idealize.ShloMosaic.TcCoe Idealize.SL.Sem
open Idealize.ShloMosaic.Pipeline (Dat)

namespace Cert.SampleIdeal.InprojValue

open Cert.SampleIdeal Cert.SampleIdeal.Gen Cert.SampleStages

variable (V : (c : Dev nD) → (b : Ref sig .tc) → Buf (Elt Ideal) ((c : Thread nD τ).loc b))

/-- Every window's block at every grid point. -/
theorem idx_val : ∀ t : Fin cfg1.N, win1_0.index t = ![0, 0, 0]
    ∧ win1_1.index t = ![0, 0, 0]
    ∧ win1_2.index t = ![0, 0]
    ∧ win1_3.index t = ![0, 0]
    ∧ win1_4.index t = ![0, 0]
    ∧ win1_5.index t = ![0, 0]
    ∧ win1_6.index t = ![0, 0]
    ∧ win1_8.index t = ![0, 0, 0]
    ∧ win1_9.index t = ![0, 0, 0]
    ∧ win1_10.index t = ![0, 0, 0, 0]
    ∧ win1_11.index t = ![0, 0, 0, 0]
    ∧ win1_12.index t = ![0, 0, 0]
    ∧ win1_13.index t = ![0, 0, 0]
    ∧ win1_14.index t = ![0, 0, 0] :=
  (by decide +kernel : ∀ t : Fin grid1.N, _)

variable (X : FVec Ideal Cert.SampleRefIdeal.S128x1024 .f32) (A : FVec Ideal Cert.SampleRefIdeal.S128x6144 .f32)
  (W : FVec Ideal Cert.SampleRefIdeal.S1x1024x5632 .f32)

/-- The normalised rows, from the arrays the call reads. -/
abbrev hidden (c : Dev nD) : FVec Ideal Cert.SampleRefIdeal.S128x1024 .f32 := normed X A (V c main_arg5)

/-- The reference's projection, from the arrays the call reads. -/
abbrev columns (c : Dev nD) : FVec Ideal Cert.SampleRefIdeal.S128x5632 .f32 := proj (hidden V X A c) W

/-- The call reads the rows `X`, the conditioning `A` and the columns of the weight `W`. -/
structure Reads (c : Dev nD) : Prop where
  rows : ∀ (r : Fin 128) (l : Fin 1024), V c main_v29 (ix3 0 r l) = X (ix2 r l)
  cond : ∀ (r : Fin 128) (l : Fin 6144), V c main_v28 (ix3 0 r l) = A (ix2 r l)
  recur : ∀ (k : Fin 1024) (l : Fin 2048), V c main_v4 (ix2 k l) = W (ix3 0 k ⟨1536 + l.val, by omega⟩)
  gates : ∀ (k : Fin 1024) (l : Fin 2048), V c main_v6 (ix2 k l) = W (ix3 0 k ⟨3584 + l.val, by omega⟩)
  turned : ∀ (l : Fin 2560) (k : Fin 1024), V c main_v12 (ix2 l k) = W (ix3 0 k (column l))

variable {V X A W} {c : Dev nD} (h : Reads V X A W c) (t : Fin cfg1.N)
include h

theorem rows0 (r : Fin 128) (l : Fin 1024) : iblk1 V c 0 t (ix3 0 r l) = X (ix2 r l) := by
  have e : ((cfg1.win 0).blk t).view.emb (ix3 0 r l) = ix3 0 r l := by blk_ext [idx_val t]
  exact (congrArg (V c main_v29) e).trans (h.rows r l)

theorem cond1 (r : Fin 128) (l : Fin 6144) : iblk1 V c 1 t (ix3 0 r l) = A (ix2 r l) := by
  have e : ((cfg1.win 1).blk t).view.emb (ix3 0 r l) = ix3 0 r l := by blk_ext [idx_val t]
  exact (congrArg (V c main_v28) e).trans (h.cond r l)

theorem weight4 (k : Fin 1024) (l : Fin 2048) : iblk1 V c 4 t (ix2 k l) = W (ix3 0 k ⟨1536 + l.val, by omega⟩) := by
  have e : ((cfg1.win 4).blk t).view.emb (ix2 k l) = ix2 k l := by blk_ext [idx_val t]
  exact (congrArg (V c main_v4) e).trans (h.recur k l)

theorem weight5 (k : Fin 1024) (l : Fin 2048) : iblk1 V c 5 t (ix2 k l) = W (ix3 0 k ⟨3584 + l.val, by omega⟩) := by
  have e : ((cfg1.win 5).blk t).view.emb (ix2 k l) = ix2 k l := by blk_ext [idx_val t]
  exact (congrArg (V c main_v6) e).trans (h.gates k l)

theorem weight6 (l : Fin 2560) (k : Fin 1024) : iblk1 V c 6 t (ix2 l k) = W (ix3 0 k (column l)) := by
  have e : ((cfg1.win 6).blk t).view.emb (ix2 l k) = ix2 l k := by blk_ext [idx_val t]
  exact (congrArg (V c main_v12) e).trans (h.turned l k)

/-- The normalised rows are the reference's. -/
theorem hidden_at (r : Fin 128) (l : Fin 1024) :
    k1_pay2 (iblk1 V c 1 t) (iblk1 V c 0 t) (iblk1 V c 2 t) (ix2 r l) = hidden V X A c (ix2 r l) := by
  refine normed_at _ _ _ _ _ _ (cond1 h t) (rows0 h t) ?_ r l
  all_goals intros
  all_goals blk_point [iblk1, idx_val t]

/-- The rows, as the later results read them. -/
abbrev again (c : Dev nD) (t : Fin cfg1.N) : FVec Ideal S128x1024 .bf16 :=
  k1_pay13 (iblk1 V c 0 t) (iblk1 V c 1 t) (iblk1 V c 2 t) (iblk1 V c 3 t) (iblk1 V c 4 t) (iblk1 V c 5 t) (iblk1 V c 6 t)

theorem hidden_again (r : Fin 128) (l : Fin 1024) : again (V := V) c t (ix2 r l) = hidden V X A c (ix2 r l) := by
  refine Eq.trans ?_ (hidden_at h t r l)
  exact congrFun (congr (congr (congrArg k1_pay2 (View.ld_unit_lit _ _ (by decide))) (View.ld_unit_lit _ _ (by decide))) (View.ld_unit_lit _ _ (by decide))) _

theorem point_8 (y) : k1_pay5 (k1_pay4 (iblk1 V c 1 t) (iblk1 V c 0 t) (iblk1 V c 2 t) (iblk1 V c 4 t)) y = recur (columns V X A W c) (((cfg1.win 8).blk t).view.emb y) := by
  idx_vars y
  obtain rfl : y0 = 0 := Subsingleton.elim _ _
  have e : ((cfg1.win 8).blk t).view.emb (ix3 0 y1 y2) = ix3 0 y1 y2 := by blk_ext [idx_val t]
  refine Eq.trans ?_ (congrArg (recur (columns V X A W c)) e).symm
  exact pay5_at _ _ _ _ _ _ (hidden_at h t) (weight4 h t) y1 y2

/-- The recurrence's inputs after the run. -/
theorem final_8 : (dat1 V c).arrAt 8 cfg1.N = recur (columns V X A W c) := by
  refine (dat1 V c).arrAt_eq_of_covers 8 _ (by decide +kernel) fun t hf y => ?_
  blk_simp; rw [after1_8]; frame_out
  exact point_8 h t y

theorem point_9 (y) : k1_pay6 (again (V := V) c t) (iblk1 V c 5 t) y = gates (columns V X A W c) (((cfg1.win 9).blk t).view.emb y) := by
  idx_vars y
  obtain rfl : y0 = 0 := Subsingleton.elim _ _
  have e : ((cfg1.win 9).blk t).view.emb (ix3 0 y1 y2) = ix3 0 y1 y2 := by blk_ext [idx_val t]
  refine Eq.trans ?_ (congrArg (gates (columns V X A W c)) e).symm
  exact pay6_at _ _ _ (hidden_again h t) _ (weight5 h t) y1 y2

/-- The gates after the run. -/
theorem final_9 : (dat1 V c).arrAt 9 cfg1.N = gates (columns V X A W c) := by
  refine (dat1 V c).arrAt_eq_of_covers 9 _ (by decide +kernel) fun t hf y => ?_
  blk_simp; rw [after1_9]; frame_out
  exact point_9 h t y

theorem point_10 (y) : k1_pay8 (again (V := V) c t) (iblk1 V c 6 t) y = keys (columns V X A W c) (((cfg1.win 10).blk t).view.emb y) := by
  idx_vars y
  obtain rfl : y0 = 0 := Subsingleton.elim _ _
  have e : ((cfg1.win 10).blk t).view.emb (ix4 0 y1 y2 y3) = ix4 0 y1 y2 y3 := by blk_ext [idx_val t]
  refine Eq.trans ?_ (congrArg (keys (columns V X A W c)) e).symm
  exact pay8_at _ _ _ (hidden_again h t) _ (weight6 h t) y1 y2 y3

/-- The keys after the run. -/
theorem final_10 : (dat1 V c).arrAt 10 cfg1.N = keys (columns V X A W c) := by
  refine (dat1 V c).arrAt_eq_of_covers 10 _ (by decide +kernel) fun t hf y => ?_
  blk_simp; rw [after1_10]; frame_out
  exact point_10 h t y

theorem point_11 (y) : k1_pay9 (again (V := V) c t) (iblk1 V c 6 t) y = vals (columns V X A W c) (((cfg1.win 11).blk t).view.emb y) := by
  idx_vars y
  obtain rfl : y0 = 0 := Subsingleton.elim _ _
  have e : ((cfg1.win 11).blk t).view.emb (ix4 0 y1 y2 y3) = ix4 0 y1 y2 y3 := by blk_ext [idx_val t]
  refine Eq.trans ?_ (congrArg (vals (columns V X A W c)) e).symm
  exact pay9_at _ _ _ (hidden_again h t) _ (weight6 h t) y1 y2 y3

/-- The values after the run. -/
theorem final_11 : (dat1 V c).arrAt 11 cfg1.N = vals (columns V X A W c) := by
  refine (dat1 V c).arrAt_eq_of_covers 11 _ (by decide +kernel) fun t hf y => ?_
  blk_simp; rw [after1_11]; frame_out
  exact point_11 h t y

theorem point_12 (y) : k1_pay10 (again (V := V) c t) (iblk1 V c 6 t) y = queries (columns V X A W c) (((cfg1.win 12).blk t).view.emb y) := by
  idx_vars y
  obtain rfl : y0 = 0 := Subsingleton.elim _ _
  have e : ((cfg1.win 12).blk t).view.emb (ix3 0 y1 y2) = ix3 0 y1 y2 := by blk_ext [idx_val t]
  refine Eq.trans ?_ (congrArg (queries (columns V X A W c)) e).symm
  exact pay10_at _ _ _ (hidden_again h t) _ (weight6 h t) y1 y2

/-- The queries after the run. -/
theorem final_12 : (dat1 V c).arrAt 12 cfg1.N = queries (columns V X A W c) := by
  refine (dat1 V c).arrAt_eq_of_covers 12 _ (by decide +kernel) fun t hf y => ?_
  blk_simp; rw [after1_12]; frame_out
  exact point_12 h t y

theorem point_13 (y) : k1_pay11 (again (V := V) c t) (iblk1 V c 6 t) y = recurQueries (columns V X A W c) (((cfg1.win 13).blk t).view.emb y) := by
  idx_vars y
  obtain rfl : y0 = 0 := Subsingleton.elim _ _
  have e : ((cfg1.win 13).blk t).view.emb (ix3 0 y1 y2) = ix3 0 y1 y2 := by blk_ext [idx_val t]
  refine Eq.trans ?_ (congrArg (recurQueries (columns V X A W c)) e).symm
  exact pay11_at _ _ _ (hidden_again h t) _ (weight6 h t) y1 y2

/-- The recurrence's queries after the run. -/
theorem final_13 : (dat1 V c).arrAt 13 cfg1.N = recurQueries (columns V X A W c) := by
  refine (dat1 V c).arrAt_eq_of_covers 13 _ (by decide +kernel) fun t hf y => ?_
  blk_simp; rw [after1_13]; frame_out
  exact point_13 h t y

theorem point_14 (y) : k1_pay1 (k1_pay12 (again (V := V) c t) (iblk1 V c 6 t)) y = recurForget (columns V X A W c) (((cfg1.win 14).blk t).view.emb y) := by
  idx_vars y
  obtain rfl : y0 = 0 := Subsingleton.elim _ _
  have e : ((cfg1.win 14).blk t).view.emb (ix3 0 y1 y2) = ix3 0 y1 y2 := by blk_ext [idx_val t]
  refine Eq.trans ?_ (congrArg (recurForget (columns V X A W c)) e).symm
  exact pay12_at _ _ _ (hidden_again h t) _ (weight6 h t) y1 y2

/-- The recurrence's forget gates after the run. -/
theorem final_14 : (dat1 V c).arrAt 14 cfg1.N = recurForget (columns V X A W c) := by
  refine (dat1 V c).arrAt_eq_of_covers 14 _ (by decide +kernel) fun t hf y => ?_
  blk_simp; rw [after1_14]; frame_out
  exact point_14 h t y

end Cert.SampleIdeal.InprojValue

end
-- ==== Proof.StepValue.lean ====
module

public import proofs.«01_k».proof.Proof.Gen.StepIdeal.Frame
public import proofs.«01_k».proof.Proof.StepStages
public import Idealize.ShloMosaic.Lib.Pipeline.ValueKit
public import Idealize.ShloMosaic.Lib.Pipeline.ReadBack
public import Idealize.ShloMosaic.Lib.StableHlo.Run

/-! The recurrence step's two result arrays.

Grid point `t` works on the samples `8 * t` to `8 * t + 7`. It stores one piece of each result for every sample and
head, and each piece holds the reference's values. -/

@[expose] public section

set_option maxRecDepth 16384

noncomputable section

open Idealize.ShloMosaic Idealize.ShloMosaic.TcCoe Idealize.SL.Sem
open Idealize.ShloMosaic.Pipeline (Dat)

namespace Cert.StepIdeal.RefValue

open Cert.StepIdeal Cert.StepIdeal.Gen Cert.StepStages

theorem inb_row (u : ℕ) (hu : u < 8) : ∀ a, (![u, 0, 0] : Fin 3 → Nat) a + S1x1x2048.size a ≤ S8x1x2048.size a := by
  interval_cases u <;> decide
theorem inb_state (u h : ℕ) (hu : u < 8) (hh : h < 4) : ∀ a, (![u, h, 0, 0] : Fin 4 → Nat) a + S1x1x128x128.size a ≤ S8x4x128x128.size a := by
  interval_cases u <;> interval_cases h <;> decide
theorem inb_out (u h : ℕ) (hu : u < 8) (hh : h < 4) : ∀ a, (![u, 0, h * 128] : Fin 3 → Nat) a + S1x1x128.size a ≤ S8x1x512.size a := by
  interval_cases u <;> interval_cases h <;> decide

/-- Where sample `u` of a block and head `h` are in the state's block. -/
abbrev rState (u h : ℕ) (hu : u < 8) (hh : h < 4) : Rect S8x4x128x128 :=
  Rect.unit (s := S8x4x128x128) ![u, h, 0, 0] S1x1x128x128.size (inb_state u h hu hh)
/-- Where they are in the output's block. -/
abbrev rOut (u h : ℕ) (hu : u < 8) (hh : h < 4) : Rect S8x1x512 :=
  Rect.unit (s := S8x1x512) ![u, 0, h * 128] S1x1x128.size (inb_out u h hu hh)

section Block
variable (i : grid0.Coords) (x0 : Vec Ideal S1x1024x128 .f32) (x1 : Vec Ideal S8x1x2048 .f32) (x2 : Vec Ideal S512x2 .f32)
  (x3 : Vec Ideal S1x128 .f32) (x4 : Vec Ideal S8x4x128x128 .f32)

/-- The features of sample `u` of the block. -/
abbrev laneAt (u : ℕ) : FVec Ideal S1024x1 .f32 :=
  lane (Scalar.addi (Scalar.muli (BitVec.ofNat 32 (i 0).val) 8#32) (BitVec.ofNat 32 u)) (View.ld x0 r0_0)
/-- The row of sample `u` of the block. -/
abbrev rowAt (u : ℕ) (hu : u < 8) : FVec Ideal S1x2048 .f32 :=
  shapeCast S1x2048 (View.ld x1 (Rect.unit (s := S8x1x2048) ![u, 0, 0] S1x1x2048.size (inb_row u hu)) : Vec Ideal S1x1x2048 .f32) shapeCasts_S1x1x2048_S1x2048

/-- The state the body stores for sample `u` and head `h`. -/
def stateAt (u h : ℕ) (hu : u < 8) (hh : h < 4) : FVec Ideal S1x1x128x128 .f32 :=
  statePiece (laneAt i x0 u) (k0_pay3 (View.ld x2 r0_1)) (rowAt x1 u hu) (View.ld x4 (rState u h hu hh)) h hh

/-- The output the body stores for sample `u` and head `h`. -/
def outAt (u h : ℕ) (hu : u < 8) (hh : h < 4) : FVec Ideal S1x1x128 .f32 :=
  outPiece (laneAt i x0 u) (k0_pay3 (View.ld x2 r0_1)) (rowAt x1 u hu) (View.ld x4 (rState u h hu hh)) (View.ld x3 r0_4) h hh

/-- The grid point's block of a result array over all samples. -/
def stateBlock (N : FVec Ideal Cert.StepRefIdeal.S128x4x128x128 .f32) : Vec Ideal S8x4x128x128 .f32 :=
  fun y => N (ix4 ⟨(i 0).val * 8 + (y 0).val, by have : (y 0).val < 8 := (y 0).isLt; have : (i 0).val < 16 := (i 0).isLt; omega⟩ (y 1) (y 2) (y 3))
def outBlock (O : FVec Ideal Cert.StepRefIdeal.S128x1x512 .f32) : Vec Ideal S8x1x512 .f32 :=
  fun y => O (ix3 ⟨(i 0).val * 8 + (y 0).val, by have : (y 0).val < 8 := (y 0).isLt; have : (i 0).val < 16 := (i 0).isLt; omega⟩ (y 1) (y 2))

variable {i x0 x1 x2 x3 x4}

/-- The state's pieces are its block. -/
theorem out6_eq {N : FVec Ideal Cert.StepRefIdeal.S128x4x128x128 .f32}
    (H : ∀ u h hu hh, ∀ x, stateAt i x0 x1 x2 x4 u h hu hh x = stateBlock i N ((rState u h hu hh).emb x)) :
    out0_6 i x0 x1 x2 x3 x4 = stateBlock i N := by
  funext y
  unfold out0_6
  refine View.canon_append_of_piecesOf (stateBlock i N) [] _ ?_ y
    (cover0_6 _ _ _ _ _ _ _ _ _ _ _ _ _ _ _ _ _ _ _ _ _ _ _ _ _ _ _ _ _ _ _ _ y)
  have p : ∀ u h (hu : u < 8) (hh : h < 4) {w : FVec Ideal S1x1x128x128 .f32}, w = stateAt i x0 x1 x2 x4 u h hu hh →
      ∀ x, w x = stateBlock i N ((rState u h hu hh).emb x) := fun u h hu hh _ hw x => hw ▸ H u h hu hh x
  exact ⟨p 7 3 (by decide) (by decide) rfl, p 7 2 (by decide) (by decide) rfl, p 7 1 (by decide) (by decide) rfl, p 7 0 (by decide) (by decide) rfl,
    p 6 3 (by decide) (by decide) rfl, p 6 2 (by decide) (by decide) rfl, p 6 1 (by decide) (by decide) rfl, p 6 0 (by decide) (by decide) rfl,
    p 5 3 (by decide) (by decide) rfl, p 5 2 (by decide) (by decide) rfl, p 5 1 (by decide) (by decide) rfl, p 5 0 (by decide) (by decide) rfl,
    p 4 3 (by decide) (by decide) rfl, p 4 2 (by decide) (by decide) rfl, p 4 1 (by decide) (by decide) rfl, p 4 0 (by decide) (by decide) rfl,
    p 3 3 (by decide) (by decide) rfl, p 3 2 (by decide) (by decide) rfl, p 3 1 (by decide) (by decide) rfl, p 3 0 (by decide) (by decide) rfl,
    p 2 3 (by decide) (by decide) rfl, p 2 2 (by decide) (by decide) rfl, p 2 1 (by decide) (by decide) rfl, p 2 0 (by decide) (by decide) rfl,
    p 1 3 (by decide) (by decide) rfl, p 1 2 (by decide) (by decide) rfl, p 1 1 (by decide) (by decide) rfl, p 1 0 (by decide) (by decide) rfl,
    p 0 3 (by decide) (by decide) rfl, p 0 2 (by decide) (by decide) rfl, p 0 1 (by decide) (by decide) rfl, p 0 0 (by decide) (by decide) rfl, trivial⟩

/-- The output's pieces are its block. -/
theorem out5_eq {O : FVec Ideal Cert.StepRefIdeal.S128x1x512 .f32}
    (H : ∀ u h hu hh, ∀ x, outAt i x0 x1 x2 x3 x4 u h hu hh x = outBlock i O ((rOut u h hu hh).emb x)) :
    out0_5 i x0 x1 x2 x3 x4 = outBlock i O := by
  funext y
  unfold out0_5
  refine View.canon_append_of_piecesOf (outBlock i O) [] _ ?_ y
    (cover0_5 _ _ _ _ _ _ _ _ _ _ _ _ _ _ _ _ _ _ _ _ _ _ _ _ _ _ _ _ _ _ _ _ y)
  have p : ∀ u h (hu : u < 8) (hh : h < 4) {w : FVec Ideal S1x1x128 .f32}, w = outAt i x0 x1 x2 x3 x4 u h hu hh →
      ∀ x, w x = outBlock i O ((rOut u h hu hh).emb x) := fun u h hu hh _ hw x => hw ▸ H u h hu hh x
  exact ⟨p 7 3 (by decide) (by decide) rfl, p 7 2 (by decide) (by decide) rfl, p 7 1 (by decide) (by decide) rfl, p 7 0 (by decide) (by decide) rfl,
    p 6 3 (by decide) (by decide) rfl, p 6 2 (by decide) (by decide) rfl, p 6 1 (by decide) (by decide) rfl, p 6 0 (by decide) (by decide) rfl,
    p 5 3 (by decide) (by decide) rfl, p 5 2 (by decide) (by decide) rfl, p 5 1 (by decide) (by decide) rfl, p 5 0 (by decide) (by decide) rfl,
    p 4 3 (by decide) (by decide) rfl, p 4 2 (by decide) (by decide) rfl, p 4 1 (by decide) (by decide) rfl, p 4 0 (by decide) (by decide) rfl,
    p 3 3 (by decide) (by decide) rfl, p 3 2 (by decide) (by decide) rfl, p 3 1 (by decide) (by decide) rfl, p 3 0 (by decide) (by decide) rfl,
    p 2 3 (by decide) (by decide) rfl, p 2 2 (by decide) (by decide) rfl, p 2 1 (by decide) (by decide) rfl, p 2 0 (by decide) (by decide) rfl,
    p 1 3 (by decide) (by decide) rfl, p 1 2 (by decide) (by decide) rfl, p 1 1 (by decide) (by decide) rfl, p 1 0 (by decide) (by decide) rfl,
    p 0 3 (by decide) (by decide) rfl, p 0 2 (by decide) (by decide) rfl, p 0 1 (by decide) (by decide) rfl, p 0 0 (by decide) (by decide) rfl, trivial⟩

/-- The sample in place `u` of the grid point's block. -/
def place (i : grid0.Coords) (u : Fin 8) : Fin 128 := ⟨(i 0).val * 8 + u.val, by have : (i 0).val < 16 := (i 0).isLt; omega⟩

variable {Q F : FVec Ideal Cert.StepRefIdeal.S1x512x128 .f32} {H : FVec Ideal Cert.StepRefIdeal.S1x128x2048 .f32}
  {L : FVec Ideal Cert.StepRefIdeal.S2x512 .f32} {St : FVec Ideal Cert.StepRefIdeal.S1x128x4x128x128 .f32} {G : FVec Ideal Cert.StepRefIdeal.S1x128 .f32}

variable (i x0 x1 x2 x3 x4 Q F H L St G) in
/-- The blocks hold the queries `Q`, the forget gates `F`, the recurrence's inputs `H`, the logits `L`, the norm's weight
`G` and the states `St` of the grid point's samples. -/
structure Holds : Prop where
  query : ∀ (r : Fin 512) (l : Fin 128), x0 (ix3 0 (queryRow r) l) = Q (ix3 0 r l)
  forget : ∀ (r : Fin 512) (l : Fin 128), x0 (ix3 0 (forgetRow r) l) = F (ix3 0 r l)
  row : ∀ (u : Fin 8) (l : Fin 2048), x1 (ix3 u 0 l) = H (ix3 0 (place i u) l)
  logits : ∀ (r : Fin 512) (j : Fin 2), x2 (ix2 r j) = L (ix2 j r)
  norm : ∀ k : Fin 128, x3 (ix2 0 k) = G (ix2 0 k)
  state : ∀ (u : Fin 8) (h : Fin 4) (k e : Fin 128), x4 (ix4 u h k e) = St (ix5 0 (place i u) h k e)

/-- The lane the body picks out for a sample. -/
theorem lane_word (i : grid0.Coords) (u : Fin 8) :
    Scalar.addi (Scalar.muli (BitVec.ofNat 32 (i 0).val) 8#32) (BitVec.ofNat 32 u.val) = BitVec.ofNat 32 (place i u).val := by
  simp [Scalar.addi, Scalar.muli, IntOp.addi, IntOp.muli, place, BitVec.ofNat_add, BitVec.ofNat_mul]

variable (b : Holds i x0 x1 x2 x3 x4 Q F H L St G)
include b

theorem low_block (a : Fin 4) (k : Fin 128) : k0_pay3 (View.ld x2 r0_1) (ix2 (feature a k) 0) = low L (ix2 a k) :=
  low_at _ _ (fun (r : Fin 512) (j : Fin 2) => (congrFun (View.ld_unit_lit (S := S512x2) _ _ (by decide)) _).trans (b.logits r j)) a k

theorem query_block (u : Fin 8) (r : Fin 512) : laneAt i x0 u.val (ix2 (queryRow r) 0) = Q (ix3 0 r (place i u)) :=
  (lane_at _ _ _ (lane_word i u) _).trans ((congrFun (View.ld_unit_lit (S := S1x1024x128) _ _ (by decide)) _).trans (b.query r _))

theorem forget_block (u : Fin 8) (r : Fin 512) : laneAt i x0 u.val (ix2 (forgetRow r) 0) = F (ix3 0 r (place i u)) :=
  (lane_at _ _ _ (lane_word i u) _).trans ((congrFun (View.ld_unit_lit (S := S1x1024x128) _ _ (by decide)) _).trans (b.forget r _))

theorem row_block (u : Fin 8) (l : Fin 2048) : rowAt x1 u.val u.isLt (ix2 0 l) = H (ix3 0 (place i u) l) := by
  refine Eq.trans ?_ (b.row u l)
  pointwise [rowAt]

theorem state_block (u : Fin 8) (h : Fin 4) (k e : Fin 128) :
    View.ld x4 (rState u.val h.val u.isLt h.isLt) (ix4 0 0 k e) = St (ix5 0 (place i u) h k e) := by
  refine Eq.trans ?_ (b.state u h k e)
  refine View.ld_unit_apply_of _ _ _ _ _ _ fun a => ?_
  fin_cases a <;> simp

theorem norm_block (k : Fin 128) : View.ld x3 r0_4 (ix2 0 k) = G (ix2 0 k) :=
  (congrFun (View.ld_unit_lit (S := S1x128) _ _ (by decide)) _).trans (b.norm k)

/-- Each piece of the state holds the reference's state there. -/
theorem state_piece (u h : ℕ) (hu : u < 8) (hh : h < 4) (x) :
    stateAt i x0 x1 x2 x4 u h hu hh x = stateBlock i (state F H L St) ((rState u h hu hh).emb x) := by
  idx_vars x
  obtain rfl : x0 = 0 := Subsingleton.elim _ _
  obtain rfl : x1 = 0 := Subsingleton.elim _ _
  refine (statePiece_at _ _ _ _ h hh _ _ _ _ (place i ⟨u, hu⟩) (low_block b) (forget_block b ⟨u, hu⟩) (row_block b ⟨u, hu⟩)
    (state_block b ⟨u, hu⟩ ⟨h, hh⟩) x2 x3).trans ?_
  refine congrArg (state F H L St) (funext fun a => ?_)
  fin_cases a <;> apply Fin.ext <;> simp [place]

/-- Each piece of the output holds the reference's output there. -/
theorem out_piece (u h : ℕ) (hu : u < 8) (hh : h < 4) (x) :
    outAt i x0 x1 x2 x3 x4 u h hu hh x = outBlock i (gated (reads Q (state F H L St)) H G) ((rOut u h hu hh).emb x) := by
  idx_vars x
  obtain rfl : x0 = 0 := Subsingleton.elim _ _
  obtain rfl : x1 = 0 := Subsingleton.elim _ _
  refine (outPiece_at _ _ _ _ _ h hh _ _ _ _ _ _ (place i ⟨u, hu⟩) (low_block b) (forget_block b ⟨u, hu⟩) (query_block b ⟨u, hu⟩)
    (row_block b ⟨u, hu⟩) (state_block b ⟨u, hu⟩ ⟨h, hh⟩) (norm_block b) x2).trans ?_
  refine congrArg (gated (reads Q (state F H L St)) H G) (funext fun a => ?_)
  fin_cases a <;> apply Fin.ext <;> simp [place, feature]

/-- What the grid point stores is its block of the reference's state and output. -/
theorem state_stored : out0_6 i x0 x1 x2 x3 x4 = stateBlock i (state F H L St) := out6_eq (state_piece b)
theorem out_stored : out0_5 i x0 x1 x2 x3 x4 = outBlock i (gated (reads Q (state F H L St)) H G) := out5_eq (out_piece b)

end Block

variable (m : (ℓ : Loc nD τ sig) → Buf (Elt Ideal) ℓ)

/-- Every window's block at every grid point. -/
theorem idx_val : ∀ t : Fin cfg0.N, win0_0.index t = ![0, 0, 0]
    ∧ win0_1.index t = ![t.val, 0, 0]
    ∧ win0_2.index t = ![0, 0]
    ∧ win0_3.index t = ![0, 0]
    ∧ win0_4.index t = ![t.val, 0, 0, 0]
    ∧ win0_5.index t = ![t.val, 0, 0]
    ∧ win0_6.index t = ![t.val, 0, 0, 0] :=
  (by decide +kernel : ∀ t : Fin grid0.N, _)

theorem coord_val : ∀ t : Fin cfg0.N, (grid0.coords t 0).val = t.val :=
  (by decide +kernel : ∀ t : Fin grid0.N, _)

variable (c : Dev nD) (t : Fin cfg0.N)

theorem query0 (r : Fin 512) (l : Fin 128) : iblk m c 0 t (ix3 0 (queryRow r) l) = m ((c : Thread nD τ).loc main_arg0) (ix3 0 r l) := by
  have e : ((cfg0.win 0).blk t).view.emb (ix3 0 (queryRow r) l) = ix3 0 (queryRow r) l := by blk_ext [idx_val t]
  refine (congrArg (V m c main_v0) e).trans ?_
  entry_read
  pointwise [queryRow, forgetRow]

theorem forget0 (r : Fin 512) (l : Fin 128) : iblk m c 0 t (ix3 0 (forgetRow r) l) = m ((c : Thread nD τ).loc main_arg1) (ix3 0 r l) := by
  have e : ((cfg0.win 0).blk t).view.emb (ix3 0 (forgetRow r) l) = ix3 0 (forgetRow r) l := by blk_ext [idx_val t]
  refine (congrArg (V m c main_v0) e).trans ?_
  entry_read
  pointwise [queryRow, forgetRow]

theorem row1 (u : Fin 8) (l : Fin 2048) : iblk m c 1 t (ix3 u 0 l) = m ((c : Thread nD τ).loc main_arg2) (ix3 0 (place (grid0.coords t) u) l) := by
  have e : ((cfg0.win 1).blk t).view.emb (ix3 u 0 l) = ix3 (place (grid0.coords t) u) 0 l := by blk_ext [idx_val t, coord_val t, place]
  refine (congrArg (V m c main_v1) e).trans ?_
  entry_read
  pointwise

theorem logits2 (r : Fin 512) (j : Fin 2) : iblk m c 2 t (ix2 r j) = m ((c : Thread nD τ).loc main_arg3) (ix2 j r) := by
  have e : ((cfg0.win 2).blk t).view.emb (ix2 r j) = ix2 r j := by blk_ext [idx_val t]
  refine (congrArg (V m c main_v2) e).trans ?_
  entry_read
  pointwise

theorem norm3 (k : Fin 128) : iblk m c 3 t (ix2 0 k) = m ((c : Thread nD τ).loc main_arg4) (ix2 0 k) := by
  have e : ((cfg0.win 3).blk t).view.emb (ix2 0 k) = ix2 0 k := by blk_ext [idx_val t]
  refine (congrArg (V m c main_arg4) e).trans ?_
  entry_read
  rfl

theorem state4 (u : Fin 8) (h : Fin 4) (k e : Fin 128) :
    iblk m c 4 t (ix4 u h k e) = m ((c : Thread nD τ).loc main_arg5) (ix5 0 (place (grid0.coords t) u) h k e) := by
  have e : ((cfg0.win 4).blk t).view.emb (ix4 u h k e) = ix4 (place (grid0.coords t) u) h k e := by blk_ext [idx_val t, coord_val t, place]
  refine (congrArg (V m c main_v3) e).trans ?_
  entry_read
  pointwise

/-- The reference's state and output, from the kernel's arguments. -/
abbrev newState : FVec Ideal Cert.StepRefIdeal.S128x4x128x128 .f32 :=
  state (m ((c : Thread nD τ).loc main_arg1)) (m ((c : Thread nD τ).loc main_arg2)) (m ((c : Thread nD τ).loc main_arg3)) (m ((c : Thread nD τ).loc main_arg5))
abbrev newOut : FVec Ideal Cert.StepRefIdeal.S128x1x512 .f32 :=
  gated (reads (m ((c : Thread nD τ).loc main_arg0)) (newState m c)) (m ((c : Thread nD τ).loc main_arg2)) (m ((c : Thread nD τ).loc main_arg4))

/-- The blocks hold the kernel's arguments. -/
theorem holds : Holds (grid0.coords t) (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4)) :=
  ⟨query0 m c t, forget0 m c t, row1 m c t, logits2 m c t, norm3 m c t, state4 m c t⟩

/-- The output after the run. -/
theorem final_5 : (dats m 0 c).arrAt 5 (cfgs 0).N = newOut m c := by
  refine (dats m 0 c).arrAt_eq_of_covers 5 _ (by decide +kernel) fun t hf y => ?_
  blk_simp; rw [after0_5, out_stored (holds m c t)]
  refine congrArg (newOut m c) ?_
  idx_vars y
  obtain rfl : y1 = 0 := Subsingleton.elim _ _
  blk_ext [idx_val t, coord_val t]

/-- The state after the run. -/
theorem final_6 : (dats m 0 c).arrAt 6 (cfgs 0).N = newState m c := by
  refine (dats m 0 c).arrAt_eq_of_covers 6 _ (by decide +kernel) fun t hf y => ?_
  blk_simp; rw [after0_6, state_stored (holds m c t)]
  refine congrArg (newState m c) ?_
  idx_vars y
  blk_ext [idx_val t, coord_val t]

end Cert.StepIdeal.RefValue

end
-- ==== Proof.SampleStep.lean ====
module

public import proofs.«01_k».proof.Proof.Gen.SampleIdeal.Frame
public import proofs.«01_k».proof.Proof.StepValue
public import Idealize.ShloMosaic.Lib.Pipeline.ValueKit
public import Idealize.ShloMosaic.Lib.StableHlo.Run

/-! The recurrence step's result arrays, among the samples' calls.

The call's body is the one of the program `Step`, so that a grid point stores what `StepValue` says of its blocks. -/

@[expose] public section

set_option maxRecDepth 16384

noncomputable section

open Idealize.ShloMosaic Idealize.ShloMosaic.TcCoe Idealize.SL.Sem
open Idealize.ShloMosaic.Pipeline (Dat)

namespace Cert.SampleIdeal.StepCall

open Cert.SampleIdeal Cert.SampleIdeal.Gen Cert.StepStages
open Cert.StepIdeal.RefValue (Holds place stateBlock outBlock state_stored out_stored)

section Same
variable (i : grid2.Coords) (x0 : Vec Ideal S1x1024x128 .f32) (x1 : Vec Ideal S8x1x2048 .f32) (x2 : Vec Ideal S512x2 .f32)
  (x3 : Vec Ideal S1x128 .f32) (x4 : Vec Ideal S8x4x128x128 .f32)

/-- The body is the one of `Step`. -/
theorem out5_same : out2_5 i x0 x1 x2 x3 x4 = Cert.StepIdeal.Gen.out0_5 i x0 x1 x2 x3 x4 := rfl
theorem out6_same : out2_6 i x0 x1 x2 x3 x4 = Cert.StepIdeal.Gen.out0_6 i x0 x1 x2 x3 x4 := rfl

end Same

variable (V : (c : Dev nD) → (b : Ref sig .tc) → Buf (Elt Ideal) ((c : Thread nD τ).loc b))

/-- Every window's block at every grid point. -/
theorem idx_val : ∀ t : Fin cfg2.N, win2_0.index t = ![0, 0, 0]
    ∧ win2_1.index t = ![t.val, 0, 0]
    ∧ win2_2.index t = ![0, 0]
    ∧ win2_3.index t = ![0, 0]
    ∧ win2_4.index t = ![t.val, 0, 0, 0]
    ∧ win2_5.index t = ![t.val, 0, 0]
    ∧ win2_6.index t = ![t.val, 0, 0, 0] :=
  (by decide +kernel : ∀ t : Fin grid2.N, _)

theorem coord_val : ∀ t : Fin cfg2.N, (grid2.coords t 0).val = t.val :=
  (by decide +kernel : ∀ t : Fin grid2.N, _)

variable (Q F : FVec Ideal Cert.StepRefIdeal.S1x512x128 .f32) (H : FVec Ideal Cert.StepRefIdeal.S1x128x2048 .f32)
  (L : FVec Ideal Cert.StepRefIdeal.S2x512 .f32) (St : FVec Ideal Cert.StepRefIdeal.S1x128x4x128x128 .f32) (G : FVec Ideal Cert.StepRefIdeal.S1x128 .f32)

/-- The call reads the queries `Q`, the forget gates `F`, the recurrence's inputs `H`, the logits `L`, the norm's weight
`G` and the states `St`. -/
structure Reads (c : Dev nD) : Prop where
  query : ∀ (r : Fin 512) (l : Fin 128), V c main_v32 (ix3 0 (queryRow r) l) = Q (ix3 0 r l)
  forget : ∀ (r : Fin 512) (l : Fin 128), V c main_v32 (ix3 0 (forgetRow r) l) = F (ix3 0 r l)
  row : ∀ (n : Fin 128) (l : Fin 2048), V c main_v33 (ix3 n 0 l) = H (ix3 0 n l)
  logits : ∀ (r : Fin 512) (j : Fin 2), V c main_v34 (ix2 r j) = L (ix2 j r)
  norm : ∀ k : Fin 128, V c main_arg9 (ix2 0 k) = G (ix2 0 k)
  state : ∀ (n : Fin 128) (h : Fin 4) (k e : Fin 128), V c main_v35 (ix4 n h k e) = St (ix5 0 n h k e)

variable {V Q F H L St G} {c : Dev nD} (h : Reads V Q F H L St G c) (t : Fin cfg2.N)
include h

theorem query0 (r : Fin 512) (l : Fin 128) : iblk2 V c 0 t (ix3 0 (queryRow r) l) = Q (ix3 0 r l) := by
  have e : ((cfg2.win 0).blk t).view.emb (ix3 0 (queryRow r) l) = ix3 0 (queryRow r) l := by blk_ext [idx_val t]
  exact (congrArg (V c main_v32) e).trans (h.query r l)

theorem forget0 (r : Fin 512) (l : Fin 128) : iblk2 V c 0 t (ix3 0 (forgetRow r) l) = F (ix3 0 r l) := by
  have e : ((cfg2.win 0).blk t).view.emb (ix3 0 (forgetRow r) l) = ix3 0 (forgetRow r) l := by blk_ext [idx_val t]
  exact (congrArg (V c main_v32) e).trans (h.forget r l)

theorem row1 (u : Fin 8) (l : Fin 2048) : iblk2 V c 1 t (ix3 u 0 l) = H (ix3 0 (place (grid2.coords t) u) l) := by
  have e : ((cfg2.win 1).blk t).view.emb (ix3 u 0 l) = ix3 (place (grid2.coords t) u) 0 l := by blk_ext [idx_val t, coord_val t, place]
  exact (congrArg (V c main_v33) e).trans (h.row _ l)

theorem logits2 (r : Fin 512) (j : Fin 2) : iblk2 V c 2 t (ix2 r j) = L (ix2 j r) := by
  have e : ((cfg2.win 2).blk t).view.emb (ix2 r j) = ix2 r j := by blk_ext [idx_val t]
  exact (congrArg (V c main_v34) e).trans (h.logits r j)

theorem norm3 (k : Fin 128) : iblk2 V c 3 t (ix2 0 k) = G (ix2 0 k) := by
  have e : ((cfg2.win 3).blk t).view.emb (ix2 0 k) = ix2 0 k := by blk_ext [idx_val t]
  exact (congrArg (V c main_arg9) e).trans (h.norm k)

theorem state4 (u : Fin 8) (a : Fin 4) (k e : Fin 128) : iblk2 V c 4 t (ix4 u a k e) = St (ix5 0 (place (grid2.coords t) u) a k e) := by
  have e' : ((cfg2.win 4).blk t).view.emb (ix4 u a k e) = ix4 (place (grid2.coords t) u) a k e := by
    blk_ext [idx_val t, coord_val t, place]
  exact (congrArg (V c main_v35) e').trans (h.state _ a k e)

/-- The blocks of a grid point hold its samples' part of what the call reads. -/
theorem holds : Holds (grid2.coords t) (iblk2 V c 0 t) (iblk2 V c 1 t) (iblk2 V c 2 t) (iblk2 V c 3 t) (iblk2 V c 4 t) Q F H L St G :=
  ⟨query0 h t, forget0 h t, row1 h t, logits2 h t, norm3 h t, state4 h t⟩

/-- What a grid point stores is its block of the reference's output and state. -/
theorem stored5 : out2_5 (grid2.coords t) (iblk2 V c 0 t) (iblk2 V c 1 t) (iblk2 V c 2 t) (iblk2 V c 3 t) (iblk2 V c 4 t)
    = outBlock (grid2.coords t) (gated (reads Q (state F H L St)) H G) :=
  (out5_same _ _ _ _ _ _).trans (out_stored (holds h t))
theorem stored6 : out2_6 (grid2.coords t) (iblk2 V c 0 t) (iblk2 V c 1 t) (iblk2 V c 2 t) (iblk2 V c 3 t) (iblk2 V c 4 t)
    = stateBlock (grid2.coords t) (state F H L St) :=
  (out6_same _ _ _ _ _ _).trans (state_stored (holds h t))

/-- The output after the region. -/
theorem final_5 : (dat2 V c).arrAt 5 cfg2.N = gated (reads Q (state F H L St)) H G := by
  refine (dat2 V c).arrAt_eq_of_covers 5 _ (by decide +kernel) fun t hf y => ?_
  blk_simp; rw [after2_5, stored5 h t]
  refine congrArg (gated (reads Q (state F H L St)) H G) ?_
  idx_vars y
  obtain rfl : y1 = 0 := Subsingleton.elim _ _
  blk_ext [idx_val t, coord_val t]

/-- The state after the region. -/
theorem final_6 : (dat2 V c).arrAt 6 cfg2.N = state F H L St := by
  refine (dat2 V c).arrAt_eq_of_covers 6 _ (by decide +kernel) fun t hf y => ?_
  blk_simp; rw [after2_6, stored6 h t]
  refine congrArg (state F H L St) ?_
  idx_vars y
  blk_ext [idx_val t, coord_val t]

end Cert.SampleIdeal.StepCall

end
-- ==== Proof.SamplePost.lean ====
module

public import proofs.«01_k».proof.Proof.Gen.SampleIdeal.Frame
public import proofs.«01_k».proof.Proof.SampleStages
public import Idealize.ShloMosaic.Lib.Pipeline.ValueKit
public import Idealize.ShloMosaic.Lib.StableHlo.Run

/-! The merge-and-feed-forward call's result array, for the samples.

One grid point computes all rows. The result is the reference's, given what the call reads. -/

@[expose] public section

set_option maxRecDepth 16384

noncomputable section

open Idealize.ShloMosaic Idealize.ShloMosaic.TcCoe Idealize.SL.Sem
open Idealize.ShloMosaic.Pipeline (Dat)

namespace Cert.SampleIdeal.PostValue

open Cert.SampleIdeal Cert.SampleIdeal.Gen Cert.SampleStages

variable (V : (c : Dev nD) → (b : Ref sig .tc) → Buf (Elt Ideal) ((c : Thread nD τ).loc b))

/-- Every window's block at every grid point. -/
theorem idx_val : ∀ t : Fin cfg3.N, win3_0.index t = ![0, 0, 0]
    ∧ win3_1.index t = ![0, 0, 0]
    ∧ win3_2.index t = ![0, 0, 0]
    ∧ win3_3.index t = ![0, 0, 0]
    ∧ win3_4.index t = ![0, 0, 0]
    ∧ win3_5.index t = ![0, 0]
    ∧ win3_6.index t = ![0, 0]
    ∧ win3_7.index t = ![0, 0]
    ∧ win3_8.index t = ![0, 0]
    ∧ win3_9.index t = ![0, 0]
    ∧ win3_10.index t = ![0, 0]
    ∧ win3_11.index t = ![0, 0]
    ∧ win3_12.index t = ![0, 0, 0] :=
  (by decide +kernel : ∀ t : Fin grid3.N, _)

variable (X : FVec Ideal Cert.SampleRefIdeal.S128x1024 .f32) (OA OH : FVec Ideal Cert.SampleRefIdeal.S128x512 .f32)
  (A : FVec Ideal Cert.SampleRefIdeal.S128x6144 .f32) (P : FVec Ideal Cert.SampleRefIdeal.S128x5632 .f32)
  (WA WH : FVec Ideal Cert.SampleRefIdeal.S1x512x1024 .f32) (WO : FVec Ideal Cert.SampleRefIdeal.S1x1024x1024 .f32)
  (W1 : FVec Ideal Cert.SampleRefIdeal.S1x1024x4096 .f32) (W2 : FVec Ideal Cert.SampleRefIdeal.S1x4096x1024 .f32) (N : FVec Ideal Cert.SampleRefIdeal.S1024 .f32)

/-- The reference's result, from the arrays the call reads. -/
abbrev answer (c : Dev nD) : FVec Ideal Cert.SampleRefIdeal.S1x128x1024 .f32 :=
  result (fed (mixed X OA OH P A WA WH WO) A (V c main_arg14) W1 W2) N

/-- The call reads the rows `X`, the mixers' rows, the conditioning `A`, the gates of the projection `P`, and the weights. -/
structure Reads (c : Dev nD) : Prop where
  rows : ∀ (r : Fin 128) (l : Fin 1024), V c main_v29 (ix3 0 r l) = X (ix2 r l)
  attn : ∀ (r : Fin 128) (l : Fin 512), V c main_v31 (ix3 0 r l) = OA (ix2 r l)
  hgrn : ∀ (r : Fin 128) (l : Fin 512), V c main_v37 (ix3 0 r l) = OH (ix2 r l)
  gates : ∀ (r : Fin 128) (l : Fin 2048), V c main_v30_2 (ix3 0 r l) = gates P (ix3 0 r l)
  cond : ∀ (r : Fin 128) (l : Fin 6144), V c main_v28 (ix3 0 r l) = A (ix2 r l)
  upAttn : ∀ (k : Fin 512) (l : Fin 1024), V c main_v14 (ix2 k l) = WA (ix3 0 k l)
  upHgrn : ∀ (k : Fin 512) (l : Fin 1024), V c main_v16 (ix2 k l) = WH (ix3 0 k l)
  out : ∀ (k : Fin 1024) (l : Fin 1024), V c main_v18 (ix2 k l) = WO (ix3 0 k l)
  ff1 : ∀ (k : Fin 1024) (l : Fin 4096), V c main_v20 (ix2 k l) = W1 (ix3 0 k l)
  ff2 : ∀ (k : Fin 4096) (l : Fin 1024), V c main_v22 (ix2 k l) = W2 (ix3 0 k l)
  norm : ∀ l : Fin 1024, V c main_v23 (ix2 0 l) = N (ix1 l)

variable {V X OA OH A P WA WH WO W1 W2 N} {c : Dev nD} (h : Reads V X OA OH A P WA WH WO W1 W2 N c) (t : Fin cfg3.N)
include h

theorem rows0 (r : Fin 128) (l : Fin 1024) : iblk3 V c 0 t (ix3 0 r l) = X (ix2 r l) := by
  have e : ((cfg3.win 0).blk t).view.emb (ix3 0 r l) = ix3 0 r l := by blk_ext [idx_val t]
  exact (congrArg (V c main_v29) e).trans (h.rows r l)

theorem attn1 (r : Fin 128) (l : Fin 512) : iblk3 V c 1 t (ix3 0 r l) = OA (ix2 r l) := by
  have e : ((cfg3.win 1).blk t).view.emb (ix3 0 r l) = ix3 0 r l := by blk_ext [idx_val t]
  exact (congrArg (V c main_v31) e).trans (h.attn r l)

theorem hgrn2 (r : Fin 128) (l : Fin 512) : iblk3 V c 2 t (ix3 0 r l) = OH (ix2 r l) := by
  have e : ((cfg3.win 2).blk t).view.emb (ix3 0 r l) = ix3 0 r l := by blk_ext [idx_val t]
  exact (congrArg (V c main_v37) e).trans (h.hgrn r l)

theorem gates3 (r : Fin 128) (l : Fin 2048) : iblk3 V c 3 t (ix3 0 r l) = gates P (ix3 0 r l) := by
  have e : ((cfg3.win 3).blk t).view.emb (ix3 0 r l) = ix3 0 r l := by blk_ext [idx_val t]
  exact (congrArg (V c main_v30_2) e).trans (h.gates r l)

theorem cond4 (r : Fin 128) (l : Fin 6144) : iblk3 V c 4 t (ix3 0 r l) = A (ix2 r l) := by
  have e : ((cfg3.win 4).blk t).view.emb (ix3 0 r l) = ix3 0 r l := by blk_ext [idx_val t]
  exact (congrArg (V c main_v28) e).trans (h.cond r l)

theorem weight5 (r : Fin 512) (l : Fin 1024) : iblk3 V c 5 t (ix2 r l) = WA (ix3 0 r l) := by
  have e : ((cfg3.win 5).blk t).view.emb (ix2 r l) = ix2 r l := by blk_ext [idx_val t]
  exact (congrArg (V c main_v14) e).trans (h.upAttn r l)

theorem weight6 (r : Fin 512) (l : Fin 1024) : iblk3 V c 6 t (ix2 r l) = WH (ix3 0 r l) := by
  have e : ((cfg3.win 6).blk t).view.emb (ix2 r l) = ix2 r l := by blk_ext [idx_val t]
  exact (congrArg (V c main_v16) e).trans (h.upHgrn r l)

theorem weight7 (r : Fin 1024) (l : Fin 1024) : iblk3 V c 7 t (ix2 r l) = WO (ix3 0 r l) := by
  have e : ((cfg3.win 7).blk t).view.emb (ix2 r l) = ix2 r l := by blk_ext [idx_val t]
  exact (congrArg (V c main_v18) e).trans (h.out r l)

theorem weight9 (r : Fin 1024) (l : Fin 4096) : iblk3 V c 9 t (ix2 r l) = W1 (ix3 0 r l) := by
  have e : ((cfg3.win 9).blk t).view.emb (ix2 r l) = ix2 r l := by blk_ext [idx_val t]
  exact (congrArg (V c main_v20) e).trans (h.ff1 r l)

theorem weight10 (r : Fin 4096) (l : Fin 1024) : iblk3 V c 10 t (ix2 r l) = W2 (ix3 0 r l) := by
  have e : ((cfg3.win 10).blk t).view.emb (ix2 r l) = ix2 r l := by blk_ext [idx_val t]
  exact (congrArg (V c main_v22) e).trans (h.ff2 r l)

theorem weight11 (l : Fin 1024) : iblk3 V c 11 t (ix2 0 l) = N (ix1 l) := by
  have e : ((cfg3.win 11).blk t).view.emb (ix2 0 l) = ix2 0 l := by blk_ext [idx_val t]
  exact (congrArg (V c main_v23) e).trans (h.norm l)

/-- The rows after the mixers are the reference's. -/
theorem mixed_row (r : Fin 128) (l : Fin 1024) :
    k3_pay3 (iblk3 V c 4 t) (iblk3 V c 3 t) (iblk3 V c 1 t) (iblk3 V c 5 t) (iblk3 V c 2 t) (iblk3 V c 6 t) (iblk3 V c 0 t) (iblk3 V c 7 t) (ix2 r l)
      = mixed X OA OH P A WA WH WO (ix2 r l) :=
  mixed_at _ _ _ _ _ _ _ _ _ _ _ _ _ _ _ _ (cond4 h t) (gates3 h t) (attn1 h t) (weight5 h t) (hgrn2 h t) (weight6 h t) (rows0 h t) (weight7 h t) r l

/-- What the grid point stores, in terms of its blocks. -/
abbrev stored (x : (w : Fin cfg3.W) → ((cfg3.win w).xblock (cfg3.grid.coords t)).Idx → Elt Ideal (cfg3.win w).elt) : FVec Ideal S1x128x1024 .f32 :=
  k3_pay1 (k3_pay4 (k3_pay2 (x 4)) (k3_pay3 (x 4) (x 3) (x 1) (x 5) (x 2) (x 6) (x 0) (x 7)) (x 8) (x 9) (x 10)) (x 11)

/-- What the grid point stores is the reference's result. -/
theorem point (y) : stored t (fun w => iblk3 V c w t) y = answer V X OA OH A P WA WH WO W1 W2 N c (((cfg3.win 12).blk t).view.emb y) := by
  idx_vars y
  obtain rfl : y0 = 0 := Subsingleton.elim _ _
  have e : ((cfg3.win 12).blk t).view.emb (ix3 0 y1 y2) = ix3 0 y1 y2 := by blk_ext [idx_val t]
  refine Eq.trans ?_ (congrArg (answer V X OA OH A P WA WH WO W1 W2 N c) e).symm
  refine result_at _ _ _ _ _ _ _ _ _ _ _ _ ?_ (mixed_row h t) ?_ (weight9 h t) (weight10 h t) (weight11 h t) y1 y2
  · intro r l
    refine Eq.trans ?_ (cond4 h t r l)
    pointwise [k3_pay2]
  · intro l
    blk_point [iblk3, idx_val t]

/-- The result array after the region is the reference's. -/
theorem final : (dat3 V c).arrAt 12 cfg3.N = answer V X OA OH A P WA WH WO W1 W2 N c := by
  refine (dat3 V c).arrAt_eq_of_covers 12 _ (by decide +kernel) fun t hf y => ?_
  blk_simp; rw [after3_12]; frame_out
  exact point h t y

end Cert.SampleIdeal.PostValue

end
-- ==== Proof.SampleValue.lean ====
module

public import proofs.«01_k».proof.Proof.SampleCond
public import proofs.«01_k».proof.Proof.SampleInproj
public import proofs.«01_k».proof.Proof.SampleStep
public import proofs.«01_k».proof.Proof.SamplePost
public import Idealize.ShloMosaic.Lib.StableHlo.RunRead

/-! The samples' four calls, one after another.

What each call reads is either an argument, a part of one that the host prepares, or a result of an earlier call. The
results at the end are the reference's stages of the arguments. -/

@[expose] public section

set_option maxRecDepth 16384

noncomputable section

open Idealize.ShloMosaic Idealize.ShloMosaic.TcCoe Idealize.SL.Sem
open Idealize.ShloMosaic.Pipeline (Dat)

namespace Cert.SampleIdeal.Chain

open Cert.SampleIdeal Cert.SampleIdeal.Gen Cert.SampleStages

variable (m : (ℓ : Loc nD τ sig) → Buf (Elt Ideal) ℓ) (ρ : Dev nD → PrngReg) (c : Dev nD)

/-- The samples' rows, from the kernel's arguments. -/
abbrev xs : FVec Ideal Cert.SampleRefIdeal.S128x1024 .f32 := rows (m ((c : Thread nD τ).loc main_arg0))
/-- The reference's conditioning, from the kernel's arguments. -/
abbrev cnd : FVec Ideal Cert.SampleRefIdeal.S128x6144 .f32 :=
  cond (m ((c : Thread nD τ).loc main_arg2)) (m ((c : Thread nD τ).loc main_arg3)) (m ((c : Thread nD τ).loc main_arg4))
/-- The reference's projection, from the kernel's arguments. -/
abbrev prj : FVec Ideal Cert.SampleRefIdeal.S128x5632 .f32 :=
  proj (normed (xs m c) (cnd m c) (m ((c : Thread nD τ).loc main_arg5))) (m ((c : Thread nD τ).loc main_arg6))
/-- The reference's new state, from the kernel's arguments. -/
abbrev nst : FVec Ideal Cert.SampleRefIdeal.S128x4x128x128 .f32 :=
  newState (prj m c) (m ((c : Thread nD τ).loc main_arg8)) (m ((c : Thread nD τ).loc main_arg10))
/-- The reference's output of the recurrence, from the kernel's arguments. -/
abbrev hgr : FVec Ideal Cert.SampleRefIdeal.S128x512 .f32 :=
  newOut (prj m c) (m ((c : Thread nD τ).loc main_arg8)) (m ((c : Thread nD τ).loc main_arg9)) (m ((c : Thread nD τ).loc main_arg10))
/-- The reference's first result, from the kernel's arguments. -/
abbrev out : FVec Ideal Cert.SampleRefIdeal.S1x128x1024 .f32 :=
  result (fed (mixed (xs m c) (mixer (m ((c : Thread nD τ).loc main_arg7))) (hgr m c) (prj m c) (cnd m c)
      (m ((c : Thread nD τ).loc main_arg11)) (m ((c : Thread nD τ).loc main_arg12)) (m ((c : Thread nD τ).loc main_arg13)))
    (cnd m c) (m ((c : Thread nD τ).loc main_arg14)) (m ((c : Thread nD τ).loc main_arg15)) (m ((c : Thread nD τ).loc main_arg16)))
    (m ((c : Thread nD τ).loc main_arg17))

/-- What the second call finds in a buffer that only the host's first stretch wrote. -/
theorem carry3 (r : Ref sig .tc) (h1 : r ∉ hostOps1_W) (h0 : ∀ w : Fin cfg0.W, Pipeline.arrRef spec0 w = r → (cfg0.win w).isOut = false) :
    V3 m ρ c r = V1 m ρ c r :=
  (W3_of m ρ c r h1).trans (W2_of m ρ c r h0)

/-- What the fourth call finds in a buffer that the third call found too. -/
theorem keep7 (r : Ref sig .tc) (h5 : r ∉ hostOps3_W) (h4 : ∀ w : Fin cfg2.W, Pipeline.arrRef spec2 w = r → (cfg2.win w).isOut = false) :
    V7 m ρ c r = V5 m ρ c r :=
  (W7_of m ρ c r h5).trans (W6_of m ρ c r h4)

/-- What the third call finds in a buffer that the second call found too. -/
theorem keep5 (r : Ref sig .tc) (h3 : r ∉ hostOps2_W) (h2 : ∀ w : Fin cfg1.W, Pipeline.arrRef spec1 w = r → (cfg1.win w).isOut = false) :
    V5 m ρ c r = V3 m ρ c r :=
  (W5_of m ρ c r h3).trans (W4_of m ρ c r h2)

/-- What the fourth call finds in a buffer that only the host's first stretch wrote. -/
theorem carry7 (r : Ref sig .tc) (h1 : r ∉ hostOps1_W) (h0 : ∀ w : Fin cfg0.W, Pipeline.arrRef spec0 w = r → (cfg0.win w).isOut = false)
    (h3 : r ∉ hostOps2_W) (h2 : ∀ w : Fin cfg1.W, Pipeline.arrRef spec1 w = r → (cfg1.win w).isOut = false)
    (h5 : r ∉ hostOps3_W) (h4 : ∀ w : Fin cfg2.W, Pipeline.arrRef spec2 w = r → (cfg2.win w).isOut = false) : V7 m ρ c r = V1 m ρ c r :=
  ((keep7 m ρ c r h5 h4).trans (keep5 m ρ c r h3 h2)).trans (carry3 m ρ c r h1 h0)

/-- The conditioning, where the second call reads it. -/
theorem cond3 (n : Fin 128) (l : Fin 6144) : V3 m ρ c main_v28 (ix3 0 n l) = cnd m c (ix2 n l) := by
  have e : V3 m ρ c main_v28 (ix3 0 n l) = V2 m ρ c main_v26 (ix2 ⟨32 + n.val, by omega⟩ l) := by
    show StableHlo.after hostOps1 (W2 m ρ c) (Proc.devRef .tc main_v28) (ix3 0 n l) = _
    entry_read
    pointwise
  have e' : V2 m ρ c main_v26 = condAll (V1 m ρ c main_v24) (V1 m ρ c main_v25) (V1 m ρ c main_arg4) :=
    (W2_arr m ρ c 3).trans (CondValue.final (V1 m ρ) c)
  have e4 : V1 m ρ c main_arg4 = m ((c : Thread nD τ).loc main_arg4) := W1_args m ρ c main_arg4 (by decide)
  rw [e, e', e4]
  refine condAll_cond _ _ _ _ _ n ?_ ?_ l
  · intro k
    show StableHlo.after hostOps0 (W0 m ρ c) (Proc.devRef .tc main_v24) (ix2 ⟨32 + n.val, by omega⟩ k) = _
    entry_read
    pointwise
  · intro k l
    show StableHlo.after hostOps0 (W0 m ρ c) (Proc.devRef .tc main_v25) (ix2 k l) = _
    entry_read
    pointwise

/-- The rows, where the second call reads them. -/
theorem rows3 (n : Fin 128) (l : Fin 1024) : V3 m ρ c main_v29 (ix3 0 n l) = xs m c (ix2 n l) := by
  have e : V3 m ρ c main_v29 (ix3 0 n l) = rows (W2 m ρ c (Proc.devRef .tc main_arg0)) (ix2 n l) := by
    show StableHlo.after hostOps1 (W2 m ρ c) (Proc.devRef .tc main_v29) (ix3 0 n l) = _
    entry_read
    pointwise [rows]
  rw [e, W2_args m ρ c main_arg0 (by decide)]

/-- The transposed weight's rows, where the second call reads them, are columns of the weight. -/
theorem turned1 (l : Fin 2560) (k : Fin 1024) : V3 m ρ c main_v12 (ix2 l k) = m ((c : Thread nD τ).loc main_arg6) (ix3 0 k (column l)) := by
  rw [carry3 m ρ c main_v12 (by decide) (by decide +kernel)]
  show StableHlo.after hostOps0 (W0 m ρ c) (Proc.devRef .tc main_v12) (ix2 l k) = _
  after_reads_simp
  pointwise
  repeat' split
  all_goals after_reads_simp
  all_goals pointwise
  all_goals refine congrArg (fun q => m ((c : Thread nD τ).loc main_arg6) (ix3 0 k q)) (Fin.ext ?_)
  all_goals simp only [column]
  all_goals repeat' split
  all_goals omega

/-- What the projection reads. -/
theorem reads3 : InprojValue.Reads (V3 m ρ) (xs m c) (cnd m c) (m ((c : Thread nD τ).loc main_arg6)) c where
  rows := rows3 m ρ c
  cond := cond3 m ρ c
  recur k l := by
    rw [carry3 m ρ c main_v4 (by decide) (by decide +kernel)]
    show StableHlo.after hostOps0 (W0 m ρ c) (Proc.devRef .tc main_v4) (ix2 k l) = _
    entry_read
    pointwise
  gates k l := by
    rw [carry3 m ρ c main_v6 (by decide) (by decide +kernel)]
    show StableHlo.after hostOps0 (W0 m ρ c) (Proc.devRef .tc main_v6) (ix2 k l) = _
    entry_read
    pointwise
  turned l k := turned1 m ρ c l k

/-- The projection, from what the second call reads. -/
theorem columns_eq : InprojValue.columns (V3 m ρ) (xs m c) (cnd m c) (m ((c : Thread nD τ).loc main_arg6)) c = prj m c := by
  show proj (normed _ _ (W3 m ρ c (Proc.devRef .tc main_arg5))) _ = _
  rw [W3_args m ρ c main_arg5 (by decide)]

/-- The second call's results that the third reads. -/
theorem recur4 : W4 m ρ c (Proc.devRef .tc main_v30_1) = recur (prj m c) :=
  ((W4_arr m ρ c 8).trans (InprojValue.final_8 (reads3 m ρ c))).trans (congrArg recur (columns_eq m ρ c))
theorem recurQueries4 : W4 m ρ c (Proc.devRef .tc main_v30_6) = recurQueries (prj m c) :=
  ((W4_arr m ρ c 13).trans (InprojValue.final_13 (reads3 m ρ c))).trans (congrArg recurQueries (columns_eq m ρ c))
theorem recurForget4 : W4 m ρ c (Proc.devRef .tc main_v30_7) = recurForget (prj m c) :=
  ((W4_arr m ρ c 14).trans (InprojValue.final_14 (reads3 m ρ c))).trans (congrArg recurForget (columns_eq m ρ c))

/-- The turned queries, where the third call reads them. -/
theorem query5 (r : Fin 512) (l : Fin 128) : V5 m ρ c main_v32 (ix3 0 (StepStages.queryRow r) l) = recurQueries (prj m c) (ix3 0 r l) := by
  rw [← recurQueries4 m ρ c]
  show StableHlo.after hostOps2 (W4 m ρ c) (Proc.devRef .tc main_v32) (ix3 0 (StepStages.queryRow r) l) = _
  entry_read
  pointwise [StepStages.queryRow]

/-- The turned forget gates, where the third call reads them. -/
theorem forget5 (r : Fin 512) (l : Fin 128) : V5 m ρ c main_v32 (ix3 0 (StepStages.forgetRow r) l) = recurForget (prj m c) (ix3 0 r l) := by
  rw [← recurForget4 m ρ c]
  show StableHlo.after hostOps2 (W4 m ρ c) (Proc.devRef .tc main_v32) (ix3 0 (StepStages.forgetRow r) l) = _
  entry_read
  pointwise [StepStages.forgetRow]

/-- What the third call reads. -/
theorem reads5 : StepCall.Reads (V5 m ρ) (recurQueries (prj m c)) (recurForget (prj m c)) (recur (prj m c)) (m ((c : Thread nD τ).loc main_arg8))
    (m ((c : Thread nD τ).loc main_arg10)) (m ((c : Thread nD τ).loc main_arg9)) c where
  query := query5 m ρ c
  forget := forget5 m ρ c
  row n l := by
    rw [← recur4 m ρ c]
    show StableHlo.after hostOps2 (W4 m ρ c) (Proc.devRef .tc main_v33) (ix3 n 0 l) = _
    entry_read
    pointwise
  logits r j := by
    rw [← W4_args m ρ c main_arg8 (by decide)]
    show StableHlo.after hostOps2 (W4 m ρ c) (Proc.devRef .tc main_v34) (ix2 r j) = _
    entry_read
    pointwise
  norm k := congrFun (W5_args m ρ c main_arg9 (by decide)) _
  state n h k e := by
    rw [← W4_args m ρ c main_arg10 (by decide)]
    show StableHlo.after hostOps2 (W4 m ρ c) (Proc.devRef .tc main_v35) (ix4 n h k e) = _
    entry_read
    pointwise

/-- The third call's results. -/
theorem state6 : W6 m ρ c (Proc.devRef .tc main_v36_1) = nst m c :=
  ((W6_arr m ρ c 6).trans (StepCall.final_6 (reads5 m ρ c))).trans (state_back _ _ _)
theorem out6 (n : Fin 128) (l : Fin 512) : W6 m ρ c (Proc.devRef .tc main_v36_0) (ix3 n 0 l) = hgr m c (ix2 n l) := by
  have e := (W6_arr m ρ c 5).trans (StepCall.final_5 (reads5 m ρ c))
  rw [state_back] at e
  exact (congrFun e _).trans (out_back _ n _ _ _ l)

/-- What the fourth call reads. -/
theorem reads7 : PostValue.Reads (V7 m ρ) (xs m c) (mixer (m ((c : Thread nD τ).loc main_arg7))) (hgr m c)
    (cnd m c) (prj m c) (m ((c : Thread nD τ).loc main_arg11)) (m ((c : Thread nD τ).loc main_arg12))
    (m ((c : Thread nD τ).loc main_arg13)) (m ((c : Thread nD τ).loc main_arg15)) (m ((c : Thread nD τ).loc main_arg16))
    (m ((c : Thread nD τ).loc main_arg17)) c where
  rows n l := (congrFun ((keep7 m ρ c main_v29 (by decide) (by decide +kernel)).trans (keep5 m ρ c main_v29 (by decide) (by decide +kernel))) _).trans
    (rows3 m ρ c n l)
  attn n l := by
    have e : V5 m ρ c main_v31 (ix3 0 n l) = mixer (W4 m ρ c (Proc.devRef .tc main_arg7)) (ix2 n l) := by
      show StableHlo.after hostOps2 (W4 m ρ c) (Proc.devRef .tc main_v31) (ix3 0 n l) = _
      entry_read
      pointwise [mixer]
    rw [keep7 m ρ c main_v31 (by decide) (by decide +kernel), e, W4_args m ρ c main_arg7 (by decide)]
  hgrn n l := by
    have e : V7 m ρ c main_v37 (ix3 0 n l) = W6 m ρ c (Proc.devRef .tc main_v36_0) (ix3 n 0 l) := by
      show StableHlo.after hostOps3 (W6 m ρ c) (Proc.devRef .tc main_v37) (ix3 0 n l) = _
      entry_read
      pointwise
    exact e.trans (out6 m ρ c n l)
  gates n l := congrFun (((keep7 m ρ c main_v30_2 (by decide) (by decide +kernel)).trans ((W5_of m ρ c main_v30_2 (by decide)).trans
    ((W4_arr m ρ c 9).trans (InprojValue.final_9 (reads3 m ρ c))))).trans (congrArg gates (columns_eq m ρ c))) (ix3 0 n l)
  cond n l := (congrFun ((keep7 m ρ c main_v28 (by decide) (by decide +kernel)).trans (keep5 m ρ c main_v28 (by decide) (by decide +kernel))) _).trans
    (cond3 m ρ c n l)
  upAttn k l := by
    rw [carry7 m ρ c main_v14 (by decide) (by decide +kernel) (by decide) (by decide +kernel) (by decide) (by decide +kernel)]
    show StableHlo.after hostOps0 (W0 m ρ c) (Proc.devRef .tc main_v14) (ix2 k l) = _
    entry_read
    pointwise
  upHgrn k l := by
    rw [carry7 m ρ c main_v16 (by decide) (by decide +kernel) (by decide) (by decide +kernel) (by decide) (by decide +kernel)]
    show StableHlo.after hostOps0 (W0 m ρ c) (Proc.devRef .tc main_v16) (ix2 k l) = _
    entry_read
    pointwise
  out k l := by
    rw [carry7 m ρ c main_v18 (by decide) (by decide +kernel) (by decide) (by decide +kernel) (by decide) (by decide +kernel)]
    show StableHlo.after hostOps0 (W0 m ρ c) (Proc.devRef .tc main_v18) (ix2 k l) = _
    entry_read
    pointwise
  ff1 k l := by
    rw [carry7 m ρ c main_v20 (by decide) (by decide +kernel) (by decide) (by decide +kernel) (by decide) (by decide +kernel)]
    show StableHlo.after hostOps0 (W0 m ρ c) (Proc.devRef .tc main_v20) (ix2 k l) = _
    entry_read
    pointwise
  ff2 k l := by
    rw [carry7 m ρ c main_v22 (by decide) (by decide +kernel) (by decide) (by decide +kernel) (by decide) (by decide +kernel)]
    show StableHlo.after hostOps0 (W0 m ρ c) (Proc.devRef .tc main_v22) (ix2 k l) = _
    entry_read
    pointwise
  norm l := by
    rw [carry7 m ρ c main_v23 (by decide) (by decide +kernel) (by decide) (by decide +kernel) (by decide) (by decide +kernel)]
    show StableHlo.after hostOps0 (W0 m ρ c) (Proc.devRef .tc main_v23) (ix2 0 l) = _
    entry_read
    pointwise

/-- The first result at the end. -/
theorem end_out : W8 m ρ c (Proc.devRef .tc main_v38) = out m c := by
  refine ((W8_arr m ρ c 12).trans (PostValue.final (reads7 m ρ c))).trans ?_
  show result (fed _ _ (W7 m ρ c (Proc.devRef .tc main_arg14)) _ _) _ = _
  rw [W7_args m ρ c main_arg14 (by decide)]

/-- What the third call leaves in a result is there at the end. -/
theorem keep8 (r : Ref sig .tc) (h5 : r ∉ hostOps3_W) (h4 : ∀ w : Fin cfg3.W, Pipeline.arrRef spec3 w = r → (cfg3.win w).isOut = false) :
    W8 m ρ c (Proc.devRef .tc r) = W6 m ρ c (Proc.devRef .tc r) :=
  (W8_of m ρ c r h4).trans (W7_of m ρ c r h5)

/-- The new state at the end. -/
theorem end_state : W8 m ρ c (Proc.devRef .tc main_v36_1) = nst m c :=
  (keep8 m ρ c main_v36_1 (by decide) (by decide +kernel)).trans (state6 m ρ c)

/-- What the second call leaves in a result that the later ones read or leave alone is there at the end. -/
theorem keep4 (r : Ref sig .tc) (h5 : r ∉ hostOps3_W) (h4 : ∀ w : Fin cfg3.W, Pipeline.arrRef spec3 w = r → (cfg3.win w).isOut = false)
    (h3 : r ∉ hostOps2_W) (h2 : ∀ w : Fin cfg2.W, Pipeline.arrRef spec2 w = r → (cfg2.win w).isOut = false) :
    W8 m ρ c (Proc.devRef .tc r) = W4 m ρ c (Proc.devRef .tc r) :=
  (keep8 m ρ c r h5 h4).trans ((W6_of m ρ c r h2).trans (W5_of m ρ c r h3))

theorem end_keys : W8 m ρ c (Proc.devRef .tc main_v30_3) = keys (prj m c) :=
  ((keep4 m ρ c main_v30_3 (by decide) (by decide +kernel) (by decide) (by decide +kernel)).trans
    ((W4_arr m ρ c 10).trans (InprojValue.final_10 (reads3 m ρ c)))).trans (congrArg keys (columns_eq m ρ c))

theorem end_vals : W8 m ρ c (Proc.devRef .tc main_v30_4) = vals (prj m c) :=
  ((keep4 m ρ c main_v30_4 (by decide) (by decide +kernel) (by decide) (by decide +kernel)).trans
    ((W4_arr m ρ c 11).trans (InprojValue.final_11 (reads3 m ρ c)))).trans (congrArg vals (columns_eq m ρ c))

theorem end_queries : W8 m ρ c (Proc.devRef .tc main_v30_5) = queries (prj m c) :=
  ((keep4 m ρ c main_v30_5 (by decide) (by decide +kernel) (by decide) (by decide +kernel)).trans
    ((W4_arr m ρ c 12).trans (InprojValue.final_12 (reads3 m ρ c)))).trans (congrArg queries (columns_eq m ρ c))

end Cert.SampleIdeal.Chain

end
-- ==== Proof.SampleRun.lean ====
module

public import proofs.«01_k».proof.Proof.SampleValue

/-! The run of the samples' program: at the end every buffer holds what the last call leaves in it. The launch is set up
as in the frame's. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.SampleIdeal.Chain

open Cert.SampleIdeal Cert.SampleIdeal.Gen

variable (m : (ℓ : Loc nD τ sig) → Buf (Elt Ideal) ℓ) (ρ : Dev nD → PrngReg)

/-- The resources of the program's threads. -/
abbrev Res := MT nD τ sig Unit (Elt Ideal) ℕ (UR sig nD τ) ℕ

set_option backward.isDefEq.respectTransparency.types false in
/-- Every buffer at the end holds what the last boundary says. -/
theorem run_all : θ_run defs (onTc (τ := τ) (main (F := Ideal))) ⟨m, fun _ => 0, ρ⟩ (fun r => ∀ c : Dev nD, ∀ b ∈ Pipeline.ucRefs τ sig,
    r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

/-- The results at the end. -/
theorem run : θ_run defs (onTc (τ := τ) (main (F := Ideal))) ⟨m, fun _ => 0, ρ⟩ (fun r => ∀ c : Dev nD,
    r.2.mem ((c.tc : Thread nD τ).loc main_v38) = out m c
    ∧ r.2.mem ((c.tc : Thread nD τ).loc main_v30_3) = SampleStages.keys (prj m c)
    ∧ r.2.mem ((c.tc : Thread nD τ).loc main_v30_4) = SampleStages.vals (prj m c)
    ∧ r.2.mem ((c.tc : Thread nD τ).loc main_v36_1) = nst m c
    ∧ r.2.mem ((c.tc : Thread nD τ).loc main_v30_5) = SampleStages.queries (prj m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)) :=
  (θ_run defs _ _).mono (fun r h c => ⟨(h c _ (mem_uc main_v38 (by decide))).trans (end_out m ρ c),
    (h c _ (mem_uc main_v30_3 (by decide))).trans (end_keys m ρ c),
    (h c _ (mem_uc main_v30_4 (by decide))).trans (end_vals m ρ c),
    (h c _ (mem_uc main_v36_1 (by decide))).trans (end_state m ρ c),
    (h c _ (mem_uc main_v30_5 (by decide))).trans (end_queries m ρ c),
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c),
    (h c _ (mem_uc main_arg14 (by decide))).trans (W8_main_arg14 m ρ c),
    (h c _ (mem_uc main_arg15 (by decide))).trans (W8_main_arg15 m ρ c),
    (h c _ (mem_uc main_arg16 (by decide))).trans (W8_main_arg16 m ρ c),
    (h c _ (mem_uc main_arg17 (by decide))).trans (W8_main_arg17 m ρ c)⟩) (run_all m ρ)

end Cert.SampleIdeal.Chain

end
-- ==== Proof.SampleClaim.lean ====
module

public import proofs.«01_k».proof.Defs
public import proofs.«01_k».proof.Proof.Gen.SampleIdeal
public import proofs.«01_k».proof.Proof.Gen.SampleRefIdeal
public import proofs.«01_k».proof.Proof.SampleRun
public import Idealize.ShloMosaic.Lib.Claim

/-! The samples' four calls compute what their reference computes, on any arguments. -/

@[expose] public section

set_option maxRecDepth 16384

noncomputable section

open Idealize.ShloMosaic Idealize.ShloMosaic.TcCoe Idealize.SL.Sem

namespace Cert.Proof.Sample

variable {m : (ℓ : Loc SampleIdeal.nD SampleIdeal.τ SampleIdeal.sig) → Buf (Elt Ideal) ℓ}
  {m' : (ℓ : Loc SampleRefIdeal.nD SampleRefIdeal.τ SampleRefIdeal.sig) → Buf (Elt Ideal) ℓ} {c : Dev SampleIdeal.nD}

/-- The arguments are the same in both memories. -/
abbrev Same (m : (ℓ : Loc SampleIdeal.nD SampleIdeal.τ SampleIdeal.sig) → Buf (Elt Ideal) ℓ)
    (m' : (ℓ : Loc SampleRefIdeal.nD SampleRefIdeal.τ SampleRefIdeal.sig) → Buf (Elt Ideal) ℓ) (c : Dev SampleIdeal.nD) : Prop :=
  m' ((c.tc : Thread SampleRefIdeal.nD SampleRefIdeal.τ).loc SampleRefIdeal.main_arg0) = m ((c.tc : Thread SampleIdeal.nD SampleIdeal.τ).loc SampleIdeal.main_arg0) ∧
  m' ((c.tc : Thread SampleRefIdeal.nD SampleRefIdeal.τ).loc SampleRefIdeal.main_arg1) = m ((c.tc : Thread SampleIdeal.nD SampleIdeal.τ).loc SampleIdeal.main_arg1) ∧
  m' ((c.tc : Thread SampleRefIdeal.nD SampleRefIdeal.τ).loc SampleRefIdeal.main_arg2) = m ((c.tc : Thread SampleIdeal.nD SampleIdeal.τ).loc SampleIdeal.main_arg2) ∧
  m' ((c.tc : Thread SampleRefIdeal.nD SampleRefIdeal.τ).loc SampleRefIdeal.main_arg3) = m ((c.tc : Thread SampleIdeal.nD SampleIdeal.τ).loc SampleIdeal.main_arg3) ∧
  m' ((c.tc : Thread SampleRefIdeal.nD SampleRefIdeal.τ).loc SampleRefIdeal.main_arg4) = m ((c.tc : Thread SampleIdeal.nD SampleIdeal.τ).loc SampleIdeal.main_arg4) ∧
  m' ((c.tc : Thread SampleRefIdeal.nD SampleRefIdeal.τ).loc SampleRefIdeal.main_arg5) = m ((c.tc : Thread SampleIdeal.nD SampleIdeal.τ).loc SampleIdeal.main_arg5) ∧
  m' ((c.tc : Thread SampleRefIdeal.nD SampleRefIdeal.τ).loc SampleRefIdeal.main_arg6) = m ((c.tc : Thread SampleIdeal.nD SampleIdeal.τ).loc SampleIdeal.main_arg6) ∧
  m' ((c.tc : Thread SampleRefIdeal.nD SampleRefIdeal.τ).loc SampleRefIdeal.main_arg7) = m ((c.tc : Thread SampleIdeal.nD SampleIdeal.τ).loc SampleIdeal.main_arg7) ∧
  m' ((c.tc : Thread SampleRefIdeal.nD SampleRefIdeal.τ).loc SampleRefIdeal.main_arg8) = m ((c.tc : Thread SampleIdeal.nD SampleIdeal.τ).loc SampleIdeal.main_arg8) ∧
  m' ((c.tc : Thread SampleRefIdeal.nD SampleRefIdeal.τ).loc SampleRefIdeal.main_arg9) = m ((c.tc : Thread SampleIdeal.nD SampleIdeal.τ).loc SampleIdeal.main_arg9) ∧
  m' ((c.tc : Thread SampleRefIdeal.nD SampleRefIdeal.τ).loc SampleRefIdeal.main_arg10) = m ((c.tc : Thread SampleIdeal.nD SampleIdeal.τ).loc SampleIdeal.main_arg10) ∧
  m' ((c.tc : Thread SampleRefIdeal.nD SampleRefIdeal.τ).loc SampleRefIdeal.main_arg11) = m ((c.tc : Thread SampleIdeal.nD SampleIdeal.τ).loc SampleIdeal.main_arg11) ∧
  m' ((c.tc : Thread SampleRefIdeal.nD SampleRefIdeal.τ).loc SampleRefIdeal.main_arg12) = m ((c.tc : Thread SampleIdeal.nD SampleIdeal.τ).loc SampleIdeal.main_arg12) ∧
  m' ((c.tc : Thread SampleRefIdeal.nD SampleRefIdeal.τ).loc SampleRefIdeal.main_arg13) = m ((c.tc : Thread SampleIdeal.nD SampleIdeal.τ).loc SampleIdeal.main_arg13) ∧
  m' ((c.tc : Thread SampleRefIdeal.nD SampleRefIdeal.τ).loc SampleRefIdeal.main_arg14) = m ((c.tc : Thread SampleIdeal.nD SampleIdeal.τ).loc SampleIdeal.main_arg14) ∧
  m' ((c.tc : Thread SampleRefIdeal.nD SampleRefIdeal.τ).loc SampleRefIdeal.main_arg15) = m ((c.tc : Thread SampleIdeal.nD SampleIdeal.τ).loc SampleIdeal.main_arg15) ∧
  m' ((c.tc : Thread SampleRefIdeal.nD SampleRefIdeal.τ).loc SampleRefIdeal.main_arg16) = m ((c.tc : Thread SampleIdeal.nD SampleIdeal.τ).loc SampleIdeal.main_arg16) ∧
  m' ((c.tc : Thread SampleRefIdeal.nD SampleRefIdeal.τ).loc SampleRefIdeal.main_arg17) = m ((c.tc : Thread SampleIdeal.nD SampleIdeal.τ).loc SampleIdeal.main_arg17)

/-- The reference's projection, from equal arguments. -/
theorem proj_agree (h : Same m m' c) : SampleRefIdeal.Value.res_main_v33 (F := Ideal) (StableHlo.launchContents m' c) = SampleIdeal.Chain.prj m c := by
  obtain ⟨h0, h1, h2, h3, h4, h5, h6, -⟩ := h
  refine (SampleStages.proj_eq _).trans ?_
  show SampleStages.proj (SampleStages.normed (SampleStages.rows (m' ((c.tc : Thread SampleRefIdeal.nD SampleRefIdeal.τ).loc SampleRefIdeal.main_arg0)))
    (SampleStages.cond (m' ((c.tc : Thread SampleRefIdeal.nD SampleRefIdeal.τ).loc SampleRefIdeal.main_arg2))
      (m' ((c.tc : Thread SampleRefIdeal.nD SampleRefIdeal.τ).loc SampleRefIdeal.main_arg3))
      (m' ((c.tc : Thread SampleRefIdeal.nD SampleRefIdeal.τ).loc SampleRefIdeal.main_arg4)))
    (m' ((c.tc : Thread SampleRefIdeal.nD SampleRefIdeal.τ).loc SampleRefIdeal.main_arg5)))
    (m' ((c.tc : Thread SampleRefIdeal.nD SampleRefIdeal.τ).loc SampleRefIdeal.main_arg6)) = _
  rw [h0, h2, h3, h4, h5, h6]

/-- The reference's last residual stream normalised, from equal arguments. -/
theorem out_agree (h : Same m m' c) : SampleStages.result (SampleRefIdeal.Value.res_main_v154 (F := Ideal) (StableHlo.launchContents m' c))
    (m' ((c.tc : Thread SampleRefIdeal.nD SampleRefIdeal.τ).loc SampleRefIdeal.main_arg17)) = SampleIdeal.Chain.out m c := by
  have hp := proj_agree h
  obtain ⟨h0, h1, h2, h3, h4, h5, h6, h7, h8, h9, h10, h11, h12, h13, h14, h15, h16, h17⟩ := h
  rw [SampleStages.proj_eq] at hp
  rw [SampleStages.fed_eq, hp]
  show SampleStages.result (SampleStages.fed (SampleStages.mixed (SampleStages.rows (m' ((c.tc : Thread SampleRefIdeal.nD SampleRefIdeal.τ).loc SampleRefIdeal.main_arg0)))
    (SampleStages.mixer (m' ((c.tc : Thread SampleRefIdeal.nD SampleRefIdeal.τ).loc SampleRefIdeal.main_arg7)))
    (SampleStages.newOut _ (m' ((c.tc : Thread SampleRefIdeal.nD SampleRefIdeal.τ).loc SampleRefIdeal.main_arg8))
      (m' ((c.tc : Thread SampleRefIdeal.nD SampleRefIdeal.τ).loc SampleRefIdeal.main_arg9)) (m' ((c.tc : Thread SampleRefIdeal.nD SampleRefIdeal.τ).loc SampleRefIdeal.main_arg10))) _
    (SampleStages.cond (m' ((c.tc : Thread SampleRefIdeal.nD SampleRefIdeal.τ).loc SampleRefIdeal.main_arg2))
      (m' ((c.tc : Thread SampleRefIdeal.nD SampleRefIdeal.τ).loc SampleRefIdeal.main_arg3))
      (m' ((c.tc : Thread SampleRefIdeal.nD SampleRefIdeal.τ).loc SampleRefIdeal.main_arg4)))
    (m' ((c.tc : Thread SampleRefIdeal.nD SampleRefIdeal.τ).loc SampleRefIdeal.main_arg11)) (m' ((c.tc : Thread SampleRefIdeal.nD SampleRefIdeal.τ).loc SampleRefIdeal.main_arg12))
    (m' ((c.tc : Thread SampleRefIdeal.nD SampleRefIdeal.τ).loc SampleRefIdeal.main_arg13)))
    (SampleStages.cond (m' ((c.tc : Thread SampleRefIdeal.nD SampleRefIdeal.τ).loc SampleRefIdeal.main_arg2))
      (m' ((c.tc : Thread SampleRefIdeal.nD SampleRefIdeal.τ).loc SampleRefIdeal.main_arg3))
      (m' ((c.tc : Thread SampleRefIdeal.nD SampleRefIdeal.τ).loc SampleRefIdeal.main_arg4)))
    (m' ((c.tc : Thread SampleRefIdeal.nD SampleRefIdeal.τ).loc SampleRefIdeal.main_arg14)) (m' ((c.tc : Thread SampleRefIdeal.nD SampleRefIdeal.τ).loc SampleRefIdeal.main_arg15))
    (m' ((c.tc : Thread SampleRefIdeal.nD SampleRefIdeal.τ).loc SampleRefIdeal.main_arg16)))
    (m' ((c.tc : Thread SampleRefIdeal.nD SampleRefIdeal.τ).loc SampleRefIdeal.main_arg17)) = _
  rw [h0, h2, h3, h4, h7, h8, h9, h10, h11, h12, h13, h14, h15, h16, h17]

/-- The reference's new state, from equal arguments. -/
theorem state_agree (h : Same m m' c) : SampleStages.newState (SampleRefIdeal.Value.res_main_v33 (F := Ideal) (StableHlo.launchContents m' c))
    (m' ((c.tc : Thread SampleRefIdeal.nD SampleRefIdeal.τ).loc SampleRefIdeal.main_arg8))
    (m' ((c.tc : Thread SampleRefIdeal.nD SampleRefIdeal.τ).loc SampleRefIdeal.main_arg10)) = SampleIdeal.Chain.nst m c := by
  rw [proj_agree h]
  obtain ⟨h0, h1, h2, h3, h4, h5, h6, h7, h8, h9, h10, -⟩ := h
  rw [h8, h10]

set_option maxHeartbeats 2000000 in
/-- The reference's results at the end, in its stages. -/
theorem reference_run (m' : (ℓ : Loc SampleRefIdeal.nD SampleRefIdeal.τ SampleRefIdeal.sig) → Buf (Elt Ideal) ℓ) (g' : Dev SampleRefIdeal.nD → PrngReg) :
    θ_run (SampleRefIdeal.defs (F := Ideal)) (onTc (τ := SampleRefIdeal.τ) (SampleRefIdeal.main (F := Ideal))) ⟨m', fun _ => 0, g'⟩
    (fun r => ∀ c : Dev SampleRefIdeal.nD,
    r.2.mem ((c.tc : Thread SampleRefIdeal.nD SampleRefIdeal.τ).loc SampleRefIdeal.main_v168) = SampleStages.result (SampleRefIdeal.Value.res_main_v154 (F := Ideal) (StableHlo.launchContents m' c)) (m' ((c.tc : Thread SampleRefIdeal.nD SampleRefIdeal.τ).loc SampleRefIdeal.main_arg17))
    ∧ r.2.mem ((c.tc : Thread SampleRefIdeal.nD SampleRefIdeal.τ).loc SampleRefIdeal.main_v171) = SampleStages.keys (SampleRefIdeal.Value.res_main_v33 (F := Ideal) (StableHlo.launchContents m' c))
    ∧ r.2.mem ((c.tc : Thread SampleRefIdeal.nD SampleRefIdeal.τ).loc SampleRefIdeal.main_v174) = SampleStages.vals (SampleRefIdeal.Value.res_main_v33 (F := Ideal) (StableHlo.launchContents m' c))
    ∧ r.2.mem ((c.tc : Thread SampleRefIdeal.nD SampleRefIdeal.τ).loc SampleRefIdeal.main_v86) = SampleStages.newState (SampleRefIdeal.Value.res_main_v33 (F := Ideal) (StableHlo.launchContents m' c))
        (m' ((c.tc : Thread SampleRefIdeal.nD SampleRefIdeal.τ).loc SampleRefIdeal.main_arg8))
        (m' ((c.tc : Thread SampleRefIdeal.nD SampleRefIdeal.τ).loc SampleRefIdeal.main_arg10))
    ∧ r.2.mem ((c.tc : Thread SampleRefIdeal.nD SampleRefIdeal.τ).loc SampleRefIdeal.main_v176) = SampleStages.queries (SampleRefIdeal.Value.res_main_v33 (F := Ideal) (StableHlo.launchContents m' c))
    ∧ r.2.mem ((c.tc : Thread SampleRefIdeal.nD SampleRefIdeal.τ).loc SampleRefIdeal.main_arg0) = m' ((c.tc : Thread SampleRefIdeal.nD SampleRefIdeal.τ).loc SampleRefIdeal.main_arg0)
    ∧ r.2.mem ((c.tc : Thread SampleRefIdeal.nD SampleRefIdeal.τ).loc SampleRefIdeal.main_arg1) = m' ((c.tc : Thread SampleRefIdeal.nD SampleRefIdeal.τ).loc SampleRefIdeal.main_arg1)
    ∧ r.2.mem ((c.tc : Thread SampleRefIdeal.nD SampleRefIdeal.τ).loc SampleRefIdeal.main_arg2) = m' ((c.tc : Thread SampleRefIdeal.nD SampleRefIdeal.τ).loc SampleRefIdeal.main_arg2)
    ∧ r.2.mem ((c.tc : Thread SampleRefIdeal.nD SampleRefIdeal.τ).loc SampleRefIdeal.main_arg3) = m' ((c.tc : Thread SampleRefIdeal.nD SampleRefIdeal.τ).loc SampleRefIdeal.main_arg3)
    ∧ r.2.mem ((c.tc : Thread SampleRefIdeal.nD SampleRefIdeal.τ).loc SampleRefIdeal.main_arg4) = m' ((c.tc : Thread SampleRefIdeal.nD SampleRefIdeal.τ).loc SampleRefIdeal.main_arg4)
    ∧ r.2.mem ((c.tc : Thread SampleRefIdeal.nD SampleRefIdeal.τ).loc SampleRefIdeal.main_arg5) = m' ((c.tc : Thread SampleRefIdeal.nD SampleRefIdeal.τ).loc SampleRefIdeal.main_arg5)
    ∧ r.2.mem ((c.tc : Thread SampleRefIdeal.nD SampleRefIdeal.τ).loc SampleRefIdeal.main_arg6) = m' ((c.tc : Thread SampleRefIdeal.nD SampleRefIdeal.τ).loc SampleRefIdeal.main_arg6)
    ∧ r.2.mem ((c.tc : Thread SampleRefIdeal.nD SampleRefIdeal.τ).loc SampleRefIdeal.main_arg7) = m' ((c.tc : Thread SampleRefIdeal.nD SampleRefIdeal.τ).loc SampleRefIdeal.main_arg7)
    ∧ r.2.mem ((c.tc : Thread SampleRefIdeal.nD SampleRefIdeal.τ).loc SampleRefIdeal.main_arg8) = m' ((c.tc : Thread SampleRefIdeal.nD SampleRefIdeal.τ).loc SampleRefIdeal.main_arg8)
    ∧ r.2.mem ((c.tc : Thread SampleRefIdeal.nD SampleRefIdeal.τ).loc SampleRefIdeal.main_arg9) = m' ((c.tc : Thread SampleRefIdeal.nD SampleRefIdeal.τ).loc SampleRefIdeal.main_arg9)
    ∧ r.2.mem ((c.tc : Thread SampleRefIdeal.nD SampleRefIdeal.τ).loc SampleRefIdeal.main_arg10) = m' ((c.tc : Thread SampleRefIdeal.nD SampleRefIdeal.τ).loc SampleRefIdeal.main_arg10)
    ∧ r.2.mem ((c.tc : Thread SampleRefIdeal.nD SampleRefIdeal.τ).loc SampleRefIdeal.main_arg11) = m' ((c.tc : Thread SampleRefIdeal.nD SampleRefIdeal.τ).loc SampleRefIdeal.main_arg11)
    ∧ r.2.mem ((c.tc : Thread SampleRefIdeal.nD SampleRefIdeal.τ).loc SampleRefIdeal.main_arg12) = m' ((c.tc : Thread SampleRefIdeal.nD SampleRefIdeal.τ).loc SampleRefIdeal.main_arg12)
    ∧ r.2.mem ((c.tc : Thread SampleRefIdeal.nD SampleRefIdeal.τ).loc SampleRefIdeal.main_arg13) = m' ((c.tc : Thread SampleRefIdeal.nD SampleRefIdeal.τ).loc SampleRefIdeal.main_arg13)
    ∧ r.2.mem ((c.tc : Thread SampleRefIdeal.nD SampleRefIdeal.τ).loc SampleRefIdeal.main_arg14) = m' ((c.tc : Thread SampleRefIdeal.nD SampleRefIdeal.τ).loc SampleRefIdeal.main_arg14)
    ∧ r.2.mem ((c.tc : Thread SampleRefIdeal.nD SampleRefIdeal.τ).loc SampleRefIdeal.main_arg15) = m' ((c.tc : Thread SampleRefIdeal.nD SampleRefIdeal.τ).loc SampleRefIdeal.main_arg15)
    ∧ r.2.mem ((c.tc : Thread SampleRefIdeal.nD SampleRefIdeal.τ).loc SampleRefIdeal.main_arg16) = m' ((c.tc : Thread SampleRefIdeal.nD SampleRefIdeal.τ).loc SampleRefIdeal.main_arg16)
    ∧ r.2.mem ((c.tc : Thread SampleRefIdeal.nD SampleRefIdeal.τ).loc SampleRefIdeal.main_arg17) = m' ((c.tc : Thread SampleRefIdeal.nD SampleRefIdeal.τ).loc SampleRefIdeal.main_arg17)) :=
  (θ_run _ _ _).mono (fun _ h c => ⟨(h c).1, (h c).2.1, (h c).2.2.1, (h c).2.2.2.1, (h c).2.2.2.2.1, (h c).2.2.2.2.2⟩)
    (SampleRefIdeal.Value.run (F := Ideal) m' g')

set_option maxHeartbeats 2000000 in
/-- Equal arguments, equal results. -/
theorem sample_algebraic : Cert.algebraic_SampleIdeal_SampleRefIdeal := by
  pair_intro
  · run_from Cert.SampleIdeal.Chain.run m g
  · exact (θ_run _ _ _).mono (fun _ h c => ⟨(h c).1.trans (out_agree (hagree c)),
      (h c).2.1.trans (congrArg SampleStages.keys (proj_agree (hagree c))),
      (h c).2.2.1.trans (congrArg SampleStages.vals (proj_agree (hagree c))),
      (h c).2.2.2.1.trans (state_agree (hagree c)),
      (h c).2.2.2.2.1.trans (congrArg SampleStages.queries (proj_agree (hagree c))),
      (h c).2.2.2.2.2⟩) (reference_run m' g')

end Cert.Proof.Sample

end
-- ==== Proof.StepClaim.lean ====
module

public import proofs.«01_k».proof.Defs
public import proofs.«01_k».proof.Proof.Gen.StepIdeal
public import proofs.«01_k».proof.Proof.Gen.StepRefIdeal
public import proofs.«01_k».proof.Proof.StepValue
public import Idealize.ShloMosaic.Lib.Claim

/-! The step of the samples' recurrence computes what its reference computes, on any arguments. -/

@[expose] public section

set_option maxRecDepth 16384

noncomputable section

open Idealize.ShloMosaic Idealize.ShloMosaic.TcCoe Idealize.SL.Sem

namespace Cert.Proof.Step

set_option maxHeartbeats 2000000 in
/-- Equal arguments, equal results. -/
theorem step_algebraic : Cert.algebraic_StepIdeal_StepRefIdeal := by
  pair_intro
  · run_from Cert.StepIdeal.Gen.run_main m g
  · run_from Cert.StepRefIdeal.Value.run m' g'
    · obtain ⟨h0, h1, h2, h3, h4, h5⟩ := hagree c
      rw [Cert.StepIdeal.RefValue.final_5 m c]
      refine (Cert.StepStages.gated_eq m' c).trans ?_
      rw [h0, h1, h2, h3, h4, h5]
    · obtain ⟨-, h1, h2, h3, -, h5⟩ := hagree c
      rw [Cert.StepIdeal.RefValue.final_6 m c]
      refine (Cert.StepStages.state_eq m' c).trans ?_
      rw [h1, h2, h3, h5]

end Cert.Proof.Step

end
-- ==== Proof.lean ====
module

public import proofs.«01_k».proof.Defs
public import proofs.«01_k».proof.Proof.Gen.Prompt
public import proofs.«01_k».proof.Proof.Gen.Prompt.Frame
public import proofs.«01_k».proof.Proof.Gen.PromptIdeal
public import proofs.«01_k».proof.Proof.Gen.PromptIdeal.Frame
public import proofs.«01_k».proof.Proof.Gen.PromptRefIdeal
public import proofs.«01_k».proof.Proof.Gen.PromptRefIdeal.Run
public import proofs.«01_k».proof.Proof.Gen.Sample
public import proofs.«01_k».proof.Proof.Gen.Sample.Frame
public import proofs.«01_k».proof.Proof.Gen.SampleIdeal
public import proofs.«01_k».proof.Proof.Gen.SampleIdeal.Frame
public import proofs.«01_k».proof.Proof.Gen.SampleRefIdeal
public import proofs.«01_k».proof.Proof.Gen.SampleRefIdeal.Run
public import proofs.«01_k».proof.Proof.Gen.Step
public import proofs.«01_k».proof.Proof.Gen.Step.Frame
public import proofs.«01_k».proof.Proof.Gen.StepIdeal
public import proofs.«01_k».proof.Proof.Gen.StepIdeal.Frame
public import proofs.«01_k».proof.Proof.Gen.StepRefIdeal
public import proofs.«01_k».proof.Proof.Gen.StepRefIdeal.Run
public import proofs.«01_k».proof.Proof.PromptClaim
public import proofs.«01_k».proof.Proof.SampleClaim
public import proofs.«01_k».proof.Proof.StepClaim
public import Idealize.ShloMosaic.Lib.Claim

/-! The claim, put together: the frames of the kernels are the generated ones, the frames of the references are
read off their runs, and the value claims come from `PromptClaim`, `SampleClaim` and
`StepClaim`. -/

@[expose] public section

set_option maxRecDepth 16384

open Idealize.ShloMosaic Idealize.SL.Sem

namespace Cert.Proof

/-- The prompt's reference runs and changes none of its arguments. -/
theorem prompt_reference_frame : Cert.quiescent_PromptRefIdeal := fun m g _ =>
  (θ_run Cert.PromptRefIdeal.defs _ _).mono
    (fun r h => ⟨fun c => (h c).2.2.2.2.2, sem_eq_zero_of_no_sems (by decide) r.2⟩) (Cert.PromptRefIdeal.Value.run m g)

/-- The samples' reference runs and changes none of its arguments. -/
theorem sample_reference_frame : Cert.quiescent_SampleRefIdeal := fun m g _ =>
  (θ_run Cert.SampleRefIdeal.defs _ _).mono
    (fun r h => ⟨fun c => (h c).2.2.2.2.2, sem_eq_zero_of_no_sems (by decide) r.2⟩) (Cert.SampleRefIdeal.Value.run m g)

/-- The recurrence step's reference runs and changes none of its arguments. -/
theorem step_reference_frame : Cert.quiescent_StepRefIdeal := fun m g _ =>
  (θ_run Cert.StepRefIdeal.defs _ _).mono
    (fun r h => ⟨fun c => (h c).2.2, sem_eq_zero_of_no_sems (by decide) r.2⟩) (Cert.StepRefIdeal.Value.run m g)

/-- Everything certified, in the order of the certificate. -/
theorem claim : Cert.Claim :=
  ⟨Cert.Prompt.Gen.facts, Cert.PromptIdeal.Gen.facts, Cert.PromptRefIdeal.Gen.facts,
    Cert.Sample.Gen.facts, Cert.SampleIdeal.Gen.facts, Cert.SampleRefIdeal.Gen.facts,
    Cert.Step.Gen.facts, Cert.StepIdeal.Gen.facts, Cert.StepRefIdeal.Gen.facts,
    fun m ρ _ => Cert.Prompt.Gen.frame m ρ, fun m ρ _ => Cert.PromptIdeal.Gen.frame m ρ, prompt_reference_frame,
    fun m ρ _ => Cert.Sample.Gen.frame m ρ, fun m ρ _ => Cert.SampleIdeal.Gen.frame m ρ, sample_reference_frame,
    fun m ρ _ => Cert.Step.Gen.frame m ρ, fun m ρ _ => Cert.StepIdeal.Gen.frame m ρ, step_reference_frame,
    trivial, prompt_algebraic, trivial, Sample.sample_algebraic, trivial, Step.step_algebraic⟩

end Cert.Proof
